-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "sixth" .f32 0x3E2AAAAB#32 ((6⁻¹ : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S262144x16 : Shape := ⟨2, ![262144, 16]⟩
abbrev S8x50 : Shape := ⟨2, ![8, 50]⟩
abbrev S50 : Shape := ⟨1, ![50]⟩
abbrev S50x50 : Shape := ⟨2, ![50, 50]⟩
abbrev S50x80 : Shape := ⟨2, ![50, 80]⟩
abbrev S80 : Shape := ⟨1, ![80]⟩
abbrev S50x72 : Shape := ⟨2, ![50, 72]⟩
abbrev S72 : Shape := ⟨1, ![72]⟩
abbrev S_ : Shape := ⟨0, ![]⟩

class Facts : Prop where
  bcast_S_S50 : S_.BroadcastsInDim S50 (![] : Fin 0 → Fin S50.rank)
  reducesTo_S50_S_d0 : S50.ReducesTo [0] S_
  h_S_ : 0 < S_.numel
  bcast_S_S80 : S_.BroadcastsInDim S80 (![] : Fin 0 → Fin S80.rank)
  reducesTo_S80_S_d0 : S80.ReducesTo [0] S_
  bcast_S_S72 : S_.BroadcastsInDim S72 (![] : Fin 0 → Fin S72.rank)
  reducesTo_S72_S_d0 : S72.ReducesTo [0] S_
  reducesTo_S50x80_S80_d0 : S50x80.ReducesTo [0] S80
  bcast_S_S50x80 : S_.BroadcastsInDim S50x80 (![] : Fin 0 → Fin S50x80.rank)
  reducesTo_S50x80_S_d0_1 : S50x80.ReducesTo [0, 1] S_

variable [Facts]

def fn_part1 {F : FTy → Type} [FloatOps F] (main_arg5 : FVec F S50x80 .f32) (main_arg7 : FVec F S50x80 .f32) (main_arg10 : FVec F S72 .f32) (main_v14 : IVec S_ 1) (main_cst_6 : FVec F S_ .f32) : IVec S_ 1 :=
  let main_v15 : FVec F S72 .f32 := broadcastInDim S72 ![] bcast_S_S72 main_cst_6
  let main_v16 : IVec S72 1 := cmpf .oeq main_arg10 main_v15
  let main_c_7 : IVec S_ 1 := constantI S_ 1 1#1
  let main_v17 : IVec S_ 1 := (fun x v => Host.reduce IntOp.andi x v reducesTo_S72_S_d0 h_S_) main_v16 main_c_7
  let main_v18 : IVec S_ 1 := andi main_v14 main_v17
  let main_v19 : FVec F S50x80 .f32 := Host.absf main_arg5
  let main_cst_8 : FVec F S_ .f32 := constant S_ .f32 0x00000000#32
  let main_v20 : FVec F S80 .f32 := (fun x v => Host.reduceAdd x v reducesTo_S50x80_S80_d0 h_S_) main_v19 main_cst_8
  let main_cst_9 : FVec F S_ .f32 := constant S_ .f32 0x41500000#32
  let main_v21 : FVec F S80 .f32 := broadcastInDim S80 ![] bcast_S_S80 main_cst_9
  let main_v22 : IVec S80 1 := cmpf .ole main_v20 main_v21
  let main_c_10 : IVec S_ 1 := constantI S_ 1 1#1
  let main_v23 : IVec S_ 1 := (fun x v => Host.reduce IntOp.andi x v reducesTo_S80_S_d0 h_S_) main_v22 main_c_10
  let main_v24 : IVec S_ 1 := andi main_v18 main_v23
  let main_v25 : FVec F S50x80 .f32 := Host.absf main_arg7
  let main_cst_11 : FVec F S_ .f32 := constant S_ .f32 0x7F800000#32
  let main_v26 : FVec F S50x80 .f32 := broadcastInDim S50x80 ![] bcast_S_S50x80 main_cst_11
  let main_v27 : IVec S50x80 1 := cmpf .olt main_v25 main_v26
  let main_c_12 : IVec S_ 1 := constantI S_ 1 1#1
  let main_v28 : IVec S_ 1 := (fun x v => Host.reduce IntOp.andi x v reducesTo_S50x80_S_d0_1 h_S_) main_v27 main_c_12
  let main_v29 : IVec S_ 1 := andi main_v24 main_v28
  main_v29

def fn {F : FTy → Type} [FloatOps F] (main_arg0 : FVec F S262144x16 .f32) (main_arg1 : FVec F S8x50 .f32) (main_arg2 : FVec F S50 .f32) (main_arg3 : FVec F S50x50 .f32) (main_arg4 : FVec F S50 .f32) (main_arg5 : FVec F S50x80 .f32) (main_arg6 : FVec F S80 .f32) (main_arg7 : FVec F S50x80 .f32) (main_arg8 : FVec F S80 .f32) (main_arg9 : FVec F S50x72 .f32) (main_arg10 : FVec F S72 .f32) : IVec S_ 1 :=
  let main_cst : FVec F S_ .f32 := constant S_ .f32 0x00000000#32
  let main_v0 : FVec F S50 .f32 := broadcastInDim S50 ![] bcast_S_S50 main_cst
  let main_v1 : IVec S50 1 := cmpf .oeq main_arg2 main_v0
  let main_c : IVec S_ 1 := constantI S_ 1 1#1
  let main_v2 : IVec S_ 1 := (fun x v => Host.reduce IntOp.andi x v reducesTo_S50_S_d0 h_S_) main_v1 main_c
  let main_cst_0 : FVec F S_ .f32 := constant S_ .f32 0x00000000#32
  let main_v3 : FVec F S50 .f32 := broadcastInDim S50 ![] bcast_S_S50 main_cst_0
  let main_v4 : IVec S50 1 := cmpf .oeq main_arg4 main_v3
  let main_c_1 : IVec S_ 1 := constantI S_ 1 1#1
  let main_v5 : IVec S_ 1 := (fun x v => Host.reduce IntOp.andi x v reducesTo_S50_S_d0 h_S_) main_v4 main_c_1
  let main_v6 : IVec S_ 1 := andi main_v2 main_v5
  let main_cst_2 : FVec F S_ .f32 := constant S_ .f32 0x00000000#32
  let main_v7 : FVec F S80 .f32 := broadcastInDim S80 ![] bcast_S_S80 main_cst_2
  let main_v8 : IVec S80 1 := cmpf .oeq main_arg6 main_v7
  let main_c_3 : IVec S_ 1 := constantI S_ 1 1#1
  let main_v9 : IVec S_ 1 := (fun x v => Host.reduce IntOp.andi x v reducesTo_S80_S_d0 h_S_) main_v8 main_c_3
  let main_v10 : IVec S_ 1 := andi main_v6 main_v9
  let main_cst_4 : FVec F S_ .f32 := constant S_ .f32 0x00000000#32
  let main_v11 : FVec F S80 .f32 := broadcastInDim S80 ![] bcast_S_S80 main_cst_4
  let main_v12 : IVec S80 1 := cmpf .oeq main_arg8 main_v11
  let main_c_5 : IVec S_ 1 := constantI S_ 1 1#1
  let main_v13 : IVec S_ 1 := (fun x v => Host.reduce IntOp.andi x v reducesTo_S80_S_d0 h_S_) main_v12 main_c_5
  let main_v14 : IVec S_ 1 := andi main_v10 main_v13
  let main_cst_6 : FVec F S_ .f32 := constant S_ .f32 0x00000000#32
  fn_part1 (F := F) main_arg5 main_arg7 main_arg10 main_v14 main_cst_6
-- ==== Kernel.lean ====
abbrev S262144x16 : Shape := ⟨2, ![262144, 16]⟩
abbrev S8x50 : Shape := ⟨2, ![8, 50]⟩
abbrev S50 : Shape := ⟨1, ![50]⟩
abbrev S50x50 : Shape := ⟨2, ![50, 50]⟩
abbrev S50x80 : Shape := ⟨2, ![50, 80]⟩
abbrev S80 : Shape := ⟨1, ![80]⟩
abbrev S50x72 : Shape := ⟨2, ![50, 72]⟩
abbrev S72 : Shape := ⟨1, ![72]⟩
abbrev S80x80 : Shape := ⟨2, ![80, 80]⟩
abbrev S80x8 : Shape := ⟨2, ![80, 8]⟩
abbrev S8x80 : Shape := ⟨2, ![8, 80]⟩
abbrev S16x80 : Shape := ⟨2, ![16, 80]⟩
abbrev S80x1 : Shape := ⟨2, ![80, 1]⟩
abbrev S50x8x9 : Shape := ⟨3, ![50, 8, 9]⟩
abbrev S_ : Shape := ⟨0, ![]⟩
abbrev S50x8x1 : Shape := ⟨3, ![50, 8, 1]⟩
abbrev S50x8x10 : Shape := ⟨3, ![50, 8, 10]⟩
abbrev S50x240 : Shape := ⟨2, ![50, 240]⟩
abbrev S16x262144 : Shape := ⟨2, ![16, 262144]⟩
abbrev S64x1x1 : Shape := ⟨3, ![64, 1, 1]⟩
abbrev S16x4096 : Shape := ⟨2, ![16, 4096]⟩
abbrev S1x1x1 : Shape := ⟨3, ![1, 1, 1]⟩
abbrev S8x4096 : Shape := ⟨2, ![8, 4096]⟩
abbrev S50x4096 : Shape := ⟨2, ![50, 4096]⟩
abbrev S240x4096 : Shape := ⟨2, ![240, 4096]⟩
abbrev S80x4096 : Shape := ⟨2, ![80, 4096]⟩
abbrev S1x4096 : Shape := ⟨2, ![1, 4096]⟩
abbrev S79x4096 : Shape := ⟨2, ![79, 4096]⟩
abbrev S4096 : Shape := ⟨1, ![4096]⟩
abbrev S1 : Shape := ⟨1, ![1]⟩
abbrev S1x1 : Shape := ⟨2, ![1, 1]⟩

abbrev nBuf : Space → Nat
  | .hbm => 36
  | .vmem => 15
  | .smem => 0
  | _ => 0

abbrev bufTy : (tb : Table) → Fin (tcTables nBuf tb) → BufTy
  | .hbm, ⟨0, _⟩ => ⟨S262144x16, .f32⟩
  | .hbm, ⟨1, _⟩ => ⟨S8x50, .f32⟩
  | .hbm, ⟨2, _⟩ => ⟨S50, .f32⟩
  | .hbm, ⟨3, _⟩ => ⟨S50x50, .f32⟩
  | .hbm, ⟨4, _⟩ => ⟨S50, .f32⟩
  | .hbm, ⟨5, _⟩ => ⟨S50x80, .f32⟩
  | .hbm, ⟨6, _⟩ => ⟨S80, .f32⟩
  | .hbm, ⟨7, _⟩ => ⟨S50x80, .f32⟩
  | .hbm, ⟨8, _⟩ => ⟨S80, .f32⟩
  | .hbm, ⟨9, _⟩ => ⟨S50x72, .f32⟩
  | .hbm, ⟨10, _⟩ => ⟨S72, .f32⟩
  | .hbm, ⟨11, _⟩ => ⟨S80x80, .f32⟩
  | .hbm, ⟨12, _⟩ => ⟨S80x8, .f32⟩
  | .hbm, ⟨13, _⟩ => ⟨S8x80, .f32⟩
  | .hbm, ⟨14, _⟩ => ⟨S16x80, .f32⟩
  | .hbm, ⟨15, _⟩ => ⟨S16x80, .f32⟩
  | .hbm, ⟨16, _⟩ => ⟨S80, .f32⟩
  | .hbm, ⟨17, _⟩ => ⟨S80x1, .f32⟩
  | .hbm, ⟨18, _⟩ => ⟨S50x8x9, .f32⟩
  | .hbm, ⟨19, _⟩ => ⟨S_, .f32⟩
  | .hbm, ⟨20, _⟩ => ⟨S50x8x1, .f32⟩
  | .hbm, ⟨21, _⟩ => ⟨S50x8x10, .f32⟩
  | .hbm, ⟨22, _⟩ => ⟨S50x80, .f32⟩
  | .hbm, ⟨23, _⟩ => ⟨S_, .f32⟩
  | .hbm, ⟨24, _⟩ => ⟨S50x80, .f32⟩
  | .hbm, ⟨25, _⟩ => ⟨S50x80, .f32⟩
  | .hbm, ⟨26, _⟩ => ⟨S_, .f32⟩
  | .hbm, ⟨27, _⟩ => ⟨S50x80, .f32⟩
  | .hbm, ⟨28, _⟩ => ⟨S50x80, .f32⟩
  | .hbm, ⟨29, _⟩ => ⟨S50x240, .f32⟩
  | .hbm, ⟨30, _⟩ => ⟨S16x262144, .f32⟩
  | .hbm, ⟨31, _⟩ => ⟨S16x262144, .f32⟩
  | .hbm, ⟨32, _⟩ => ⟨S64x1x1, .f32⟩
  | .hbm, ⟨33, _⟩ => ⟨S262144x16, .f32⟩
  | .hbm, ⟨34, _⟩ => ⟨S_, .f32⟩
  | .hbm, ⟨35, _⟩ => ⟨S_, .f32⟩
  | .local _ .vmem, ⟨0, _⟩ => ⟨S16x4096, .f32⟩
  | .local _ .vmem, ⟨1, _⟩ => ⟨S16x4096, .f32⟩
  | .local _ .vmem, ⟨2, _⟩ => ⟨S8x50, .f32⟩
  | .local _ .vmem, ⟨3, _⟩ => ⟨S50x50, .f32⟩
  | .local _ .vmem, ⟨4, _⟩ => ⟨S50x240, .f32⟩
  | .local _ .vmem, ⟨5, _⟩ => ⟨S80x80, .f32⟩
  | .local _ .vmem, ⟨6, _⟩ => ⟨S80x8, .f32⟩
  | .local _ .vmem, ⟨7, _⟩ => ⟨S8x80, .f32⟩
  | .local _ .vmem, ⟨8, _⟩ => ⟨S16x80, .f32⟩
  | .local _ .vmem, ⟨9, _⟩ => ⟨S16x80, .f32⟩
  | .local _ .vmem, ⟨10, _⟩ => ⟨S80x1, .f32⟩
  | .local _ .vmem, ⟨11, _⟩ => ⟨S16x4096, .f32⟩
  | .local _ .vmem, ⟨12, _⟩ => ⟨S16x4096, .f32⟩
  | .local _ .vmem, ⟨13, _⟩ => ⟨S1x1x1, .f32⟩
  | .local _ .vmem, ⟨14, _⟩ => ⟨S1x1x1, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_cst_3 : Ref sig .tc := ⟨.hbm, 15, rfl⟩
abbrev main_cst_4 : Ref sig .tc := ⟨.hbm, 16, rfl⟩
abbrev main_v0 : Ref sig .tc := ⟨.hbm, 17, rfl⟩
abbrev main_v1 : Ref sig .tc := ⟨.hbm, 18, rfl⟩
abbrev main_cst_5 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_6 : Ref sig .tc := ⟨.hbm, 23, rfl⟩
abbrev main_v5 : Ref sig .tc := ⟨.hbm, 24, rfl⟩
abbrev main_v6 : Ref sig .tc := ⟨.hbm, 25, rfl⟩
abbrev main_cst_7 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v12 : Ref sig .tc := ⟨.hbm, 33, rfl⟩
abbrev main_cst_8 : Ref sig .tc := ⟨.hbm, 34, rfl⟩
abbrev main_v13 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S80x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "sixth" => some ((6⁻¹ : ℝ) : EReal)
  | _ => none
-- ==== ReferenceIdeal.lean ====
abbrev S262144x16 : Shape := ⟨2, ![262144, 16]⟩
abbrev S8x50 : Shape := ⟨2, ![8, 50]⟩
abbrev S50 : Shape := ⟨1, ![50]⟩
abbrev S50x50 : Shape := ⟨2, ![50, 50]⟩
abbrev S50x80 : Shape := ⟨2, ![50, 80]⟩
abbrev S80 : Shape := ⟨1, ![80]⟩
abbrev S50x72 : Shape := ⟨2, ![50, 72]⟩
abbrev S72 : Shape := ⟨1, ![72]⟩
abbrev S262144x8 : Shape := ⟨2, ![262144, 8]⟩
abbrev S262144x50 : Shape := ⟨2, ![262144, 50]⟩
abbrev S1x50 : Shape := ⟨2, ![1, 50]⟩
abbrev S262144x80 : Shape := ⟨2, ![262144, 80]⟩
abbrev S1x80 : Shape := ⟨2, ![1, 80]⟩
abbrev S_ : Shape := ⟨0, ![]⟩
abbrev S262144x8x10 : Shape := ⟨3, ![262144, 8, 10]⟩
abbrev S262144x8x1 : Shape := ⟨3, ![262144, 8, 1]⟩
abbrev S262144x72 : Shape := ⟨2, ![262144, 72]⟩
abbrev S1x72 : Shape := ⟨2, ![1, 72]⟩
abbrev S262144x8x9 : Shape := ⟨3, ![262144, 8, 9]⟩
abbrev S262144x8x11 : Shape := ⟨3, ![262144, 8, 11]⟩
abbrev S262144x8x1x1 : Shape := ⟨4, ![262144, 8, 1, 1]⟩
abbrev S1 : Shape := ⟨1, ![1]⟩
abbrev S1x1x1x1 : Shape := ⟨4, ![1, 1, 1, 1]⟩

abbrev nBuf : Space → Nat
  | .hbm => 349
  | .vmem => 0
  | .smem => 0
  | _ => 0

abbrev hbmTy0_0 (i : Nat) : BufTy := match i % 128 with
  | 0 => ⟨S262144x16, .f32⟩
  | 1 => ⟨S8x50, .f32⟩
  | 2 => ⟨S50, .f32⟩
  | 3 => ⟨S50x50, .f32⟩
  | 4 => ⟨S50, .f32⟩
  | 5 => ⟨S50x80, .f32⟩
  | 6 => ⟨S80, .f32⟩
  | 7 => ⟨S50x80, .f32⟩
  | 8 => ⟨S80, .f32⟩
  | 9 => ⟨S50x72, .f32⟩
  | 10 => ⟨S72, .f32⟩
  | 11 => ⟨S262144x8, .f32⟩
  | 12 => ⟨S262144x8, .f32⟩
  | 13 => ⟨S262144x50, .f32⟩
  | 14 => ⟨S1x50, .f32⟩
  | 15 => ⟨S262144x50, .f32⟩
  | 16 => ⟨S262144x50, .f32⟩
  | 17 => ⟨S262144x50, .f32⟩
  | 18 => ⟨S262144x50, .f32⟩
  | 19 => ⟨S1x50, .f32⟩
  | 20 => ⟨S262144x50, .f32⟩
  | 21 => ⟨S262144x50, .f32⟩
  | 22 => ⟨S262144x50, .f32⟩
  | 23 => ⟨S262144x80, .f32⟩
  | 24 => ⟨S1x80, .f32⟩
  | 25 => ⟨S262144x80, .f32⟩
  | 26 => ⟨S262144x80, .f32⟩
  | 27 => ⟨S_, .f32⟩
  | 28 => ⟨S262144x80, .f32⟩
  | 29 => ⟨S262144x80, .f32⟩
  | 30 => ⟨S262144x8x10, .f32⟩
  | 31 => ⟨S_, .f32⟩
  | 32 => ⟨S262144x8, .f32⟩
  | 33 => ⟨S_, .f32⟩
  | 34 => ⟨S262144x8, .f32⟩
  | 35 => ⟨S262144x8, .f32⟩
  | 36 => ⟨S262144x8x1, .f32⟩
  | 37 => ⟨S262144x8x10, .f32⟩
  | 38 => ⟨S262144x8x10, .f32⟩
  | 39 => ⟨S262144x8x10, .f32⟩
  | 40 => ⟨S_, .f32⟩
  | 41 => ⟨S262144x8, .f32⟩
  | 42 => ⟨S262144x8x1, .f32⟩
  | 43 => ⟨S262144x8x10, .f32⟩
  | 44 => ⟨S262144x8x10, .f32⟩
  | 45 => ⟨S262144x80, .f32⟩
  | 46 => ⟨S1x80, .f32⟩
  | 47 => ⟨S262144x80, .f32⟩
  | 48 => ⟨S262144x80, .f32⟩
  | 49 => ⟨S_, .f32⟩
  | 50 => ⟨S262144x80, .f32⟩
  | 51 => ⟨S262144x80, .f32⟩
  | 52 => ⟨S262144x8x10, .f32⟩
  | 53 => ⟨S_, .f32⟩
  | 54 => ⟨S262144x8, .f32⟩
  | 55 => ⟨S_, .f32⟩
  | 56 => ⟨S262144x8, .f32⟩
  | 57 => ⟨S262144x8, .f32⟩
  | 58 => ⟨S262144x8x1, .f32⟩
  | 59 => ⟨S262144x8x10, .f32⟩
  | 60 => ⟨S262144x8x10, .f32⟩
  | 61 => ⟨S262144x8x10, .f32⟩
  | 62 => ⟨S_, .f32⟩
  | 63 => ⟨S262144x8, .f32⟩
  | 64 => ⟨S262144x8x1, .f32⟩
  | 65 => ⟨S262144x8x10, .f32⟩
  | 66 => ⟨S262144x8x10, .f32⟩
  | 67 => ⟨S262144x72, .f32⟩
  | 68 => ⟨S1x72, .f32⟩
  | 69 => ⟨S262144x72, .f32⟩
  | 70 => ⟨S262144x72, .f32⟩
  | 71 => ⟨S262144x8x9, .f32⟩
  | 72 => ⟨S_, .f32⟩
  | 73 => ⟨S262144x8x9, .f32⟩
  | 74 => ⟨S262144x8x9, .f32⟩
  | 75 => ⟨S262144x8x9, .f32⟩
  | 76 => ⟨S262144x8x9, .f32⟩
  | 77 => ⟨S262144x8x9, .i1⟩
  | 78 => ⟨S262144x8x9, .f32⟩
  | 79 => ⟨S262144x8x9, .f32⟩
  | 80 => ⟨S262144x8x9, .f32⟩
  | 81 => ⟨S262144x8x9, .f32⟩
  | 82 => ⟨S262144x8x9, .f32⟩
  | 83 => ⟨S262144x8x9, .f32⟩
  | 84 => ⟨S262144x8x9, .f32⟩
  | 85 => ⟨S262144x8x9, .f32⟩
  | 86 => ⟨S_, .f32⟩
  | 87 => ⟨S262144x8x1, .f32⟩
  | 88 => ⟨S_, .f32⟩
  | 89 => ⟨S_, .f32⟩
  | 90 => ⟨S262144x8x10, .f32⟩
  | 91 => ⟨S_, .f32⟩
  | 92 => ⟨S262144x8x10, .f32⟩
  | 93 => ⟨S262144x8x10, .f32⟩
  | 94 => ⟨S_, .f32⟩
  | 95 => ⟨S262144x8x10, .f32⟩
  | 96 => ⟨S262144x8x10, .f32⟩
  | 97 => ⟨S262144x8x11, .f32⟩
  | 98 => ⟨S_, .f32⟩
  | 99 => ⟨S262144x8x1, .f32⟩
  | 100 => ⟨S_, .f32⟩
  | 101 => ⟨S_, .f32⟩
  | 102 => ⟨S262144x8x10, .f32⟩
  | 103 => ⟨S_, .f32⟩
  | 104 => ⟨S262144x8x10, .f32⟩
  | 105 => ⟨S262144x8x10, .f32⟩
  | 106 => ⟨S_, .f32⟩
  | 107 => ⟨S262144x8x10, .f32⟩
  | 108 => ⟨S262144x8x10, .f32⟩
  | 109 => ⟨S262144x8x11, .f32⟩
  | 110 => ⟨S_, .f32⟩
  | 111 => ⟨S262144x8x1, .f32⟩
  | 112 => ⟨S_, .f32⟩
  | 113 => ⟨S262144x8x1, .f32⟩
  | 114 => ⟨S262144x8x11, .f32⟩
  | 115 => ⟨S262144x8x10, .f32⟩
  | 116 => ⟨S262144x8x10, .f32⟩
  | 117 => ⟨S262144x8x10, .f32⟩
  | 118 => ⟨S262144x8x10, .f32⟩
  | 119 => ⟨S262144x8x10, .f32⟩
  | 120 => ⟨S262144x8x10, .f32⟩
  | 121 => ⟨S_, .f32⟩
  | 122 => ⟨S262144x8, .f32⟩
  | 123 => ⟨S262144x8, .i1⟩
  | 124 => ⟨S_, .f32⟩
  | 125 => ⟨S262144x8, .f32⟩
  | 126 => ⟨S262144x8, .i1⟩
  | 127 => ⟨S262144x8, .i1⟩
  | _ => ⟨S262144x16, .f32⟩

abbrev hbmTy0_1 (i : Nat) : BufTy := match i % 128 with
  | 0 => ⟨S_, .f32⟩
  | 1 => ⟨S_, .f32⟩
  | 2 => ⟨S_, .f32⟩
  | 3 => ⟨S262144x8, .f32⟩
  | 4 => ⟨S262144x8, .f32⟩
  | 5 => ⟨S_, .f32⟩
  | 6 => ⟨S262144x8, .f32⟩
  | 7 => ⟨S262144x8, .f32⟩
  | 8 => ⟨S262144x8x1, .f32⟩
  | 9 => ⟨S262144x8x10, .f32⟩
  | 10 => ⟨S262144x8x10, .f32⟩
  | 11 => ⟨S262144x8x10, .i1⟩
  | 12 => ⟨S262144x8x10, .i32⟩
  | 13 => ⟨S_, .i32⟩
  | 14 => ⟨S262144x8, .i32⟩
  | 15 => ⟨S_, .i32⟩
  | 16 => ⟨S262144x8, .i32⟩
  | 17 => ⟨S262144x8, .i32⟩
  | 18 => ⟨S_, .i32⟩
  | 19 => ⟨S_, .i32⟩
  | 20 => ⟨S_, .i32⟩
  | 21 => ⟨S262144x8, .i32⟩
  | 22 => ⟨S262144x8, .i32⟩
  | 23 => ⟨S_, .i32⟩
  | 24 => ⟨S262144x8, .i32⟩
  | 25 => ⟨S262144x8, .i32⟩
  | 26 => ⟨S262144x8x1, .i32⟩
  | 27 => ⟨S262144x8x10, .f32⟩
  | 28 => ⟨S_, .i32⟩
  | 29 => ⟨S262144x8x1, .i32⟩
  | 30 => ⟨S262144x8x1, .i1⟩
  | 31 => ⟨S_, .i32⟩
  | 32 => ⟨S262144x8x1, .i32⟩
  | 33 => ⟨S262144x8x1, .i32⟩
  | 34 => ⟨S262144x8x1, .i32⟩
  | 35 => ⟨S262144x8x1x1, .i32⟩
  | 36 => ⟨S1, .i32⟩
  | 37 => ⟨S_, .i32⟩
  | 38 => ⟨S262144x8x1x1, .i32⟩
  | 39 => ⟨S262144x8x1x1, .i1⟩
  | 40 => ⟨S1x1x1x1, .i32⟩
  | 41 => ⟨S262144x8x1x1, .i32⟩
  | 42 => ⟨S262144x8x1x1, .i1⟩
  | 43 => ⟨S262144x8x1x1, .i1⟩
  | 44 => ⟨S_, .i1⟩
  | 45 => ⟨S262144x8x1, .i1⟩
  | 46 => ⟨S262144x8x1, .f32⟩
  | 47 => ⟨S_, .f32⟩
  | 48 => ⟨S262144x8x1, .f32⟩
  | 49 => ⟨S262144x8x1, .f32⟩
  | 50 => ⟨S262144x8, .f32⟩
  | 51 => ⟨S262144x8x10, .f32⟩
  | 52 => ⟨S_, .i32⟩
  | 53 => ⟨S262144x8x1, .i32⟩
  | 54 => ⟨S262144x8x1, .i1⟩
  | 55 => ⟨S_, .i32⟩
  | 56 => ⟨S262144x8x1, .i32⟩
  | 57 => ⟨S262144x8x1, .i32⟩
  | 58 => ⟨S262144x8x1, .i32⟩
  | 59 => ⟨S262144x8x1x1, .i32⟩
  | 60 => ⟨S1, .i32⟩
  | 61 => ⟨S_, .i32⟩
  | 62 => ⟨S262144x8x1x1, .i32⟩
  | 63 => ⟨S262144x8x1x1, .i1⟩
  | 64 => ⟨S1x1x1x1, .i32⟩
  | 65 => ⟨S262144x8x1x1, .i32⟩
  | 66 => ⟨S262144x8x1x1, .i1⟩
  | 67 => ⟨S262144x8x1x1, .i1⟩
  | 68 => ⟨S_, .i1⟩
  | 69 => ⟨S262144x8x1, .i1⟩
  | 70 => ⟨S262144x8x1, .f32⟩
  | 71 => ⟨S_, .f32⟩
  | 72 => ⟨S262144x8x1, .f32⟩
  | 73 => ⟨S262144x8x1, .f32⟩
  | 74 => ⟨S262144x8, .f32⟩
  | 75 => ⟨S_, .i32⟩
  | 76 => ⟨S262144x8x1, .i32⟩
  | 77 => ⟨S262144x8x1, .i1⟩
  | 78 => ⟨S_, .i32⟩
  | 79 => ⟨S262144x8x1, .i32⟩
  | 80 => ⟨S262144x8x1, .i32⟩
  | 81 => ⟨S262144x8x1, .i32⟩
  | 82 => ⟨S262144x8x1x1, .i32⟩
  | 83 => ⟨S1, .i32⟩
  | 84 => ⟨S_, .i32⟩
  | 85 => ⟨S262144x8x1x1, .i32⟩
  | 86 => ⟨S262144x8x1x1, .i1⟩
  | 87 => ⟨S1x1x1x1, .i32⟩
  | 88 => ⟨S262144x8x1x1, .i32⟩
  | 89 => ⟨S262144x8x1x1, .i1⟩
  | 90 => ⟨S262144x8x1x1, .i1⟩
  | 91 => ⟨S_, .i1⟩
  | 92 => ⟨S262144x8x1, .i1⟩
  | 93 => ⟨S262144x8x1, .f32⟩
  | 94 => ⟨S_, .f32⟩
  | 95 => ⟨S262144x8x1, .f32⟩
  | 96 => ⟨S262144x8x1, .f32⟩
  | 97 => ⟨S262144x8, .f32⟩
  | 98 => ⟨S_, .i32⟩
  | 99 => ⟨S262144x8x1, .i32⟩
  | 100 => ⟨S262144x8x1, .i1⟩
  | 101 => ⟨S_, .i32⟩
  | 102 => ⟨S262144x8x1, .i32⟩
  | 103 => ⟨S262144x8x1, .i32⟩
  | 104 => ⟨S262144x8x1, .i32⟩
  | 105 => ⟨S262144x8x1x1, .i32⟩
  | 106 => ⟨S1, .i32⟩
  | 107 => ⟨S_, .i32⟩
  | 108 => ⟨S262144x8x1x1, .i32⟩
  | 109 => ⟨S262144x8x1x1, .i1⟩
  | 110 => ⟨S1x1x1x1, .i32⟩
  | 111 => ⟨S262144x8x1x1, .i32⟩
  | 112 => ⟨S262144x8x1x1, .i1⟩
  | 113 => ⟨S262144x8x1x1, .i1⟩
  | 114 => ⟨S_, .i1⟩
  | 115 => ⟨S262144x8x1, .i1⟩
  | 116 => ⟨S262144x8x1, .f32⟩
  | 117 => ⟨S_, .f32⟩
  | 118 => ⟨S262144x8x1, .f32⟩
  | 119 => ⟨S262144x8x1, .f32⟩
  | 120 => ⟨S262144x8, .f32⟩
  | 121 => ⟨S262144x8x10, .f32⟩
  | 122 => ⟨S_, .i32⟩
  | 123 => ⟨S262144x8x1, .i32⟩
  | 124 => ⟨S262144x8x1, .i1⟩
  | 125 => ⟨S_, .i32⟩
  | 126 => ⟨S262144x8x1, .i32⟩
  | 127 => ⟨S262144x8x1, .i32⟩
  | _ => ⟨S262144x16, .f32⟩

abbrev hbmTy0_2 (i : Nat) : BufTy := match i % 128 with
  | 0 => ⟨S262144x8x1, .i32⟩
  | 1 => ⟨S262144x8x1x1, .i32⟩
  | 2 => ⟨S1, .i32⟩
  | 3 => ⟨S_, .i32⟩
  | 4 => ⟨S262144x8x1x1, .i32⟩
  | 5 => ⟨S262144x8x1x1, .i1⟩
  | 6 => ⟨S1x1x1x1, .i32⟩
  | 7 => ⟨S262144x8x1x1, .i32⟩
  | 8 => ⟨S262144x8x1x1, .i1⟩
  | 9 => ⟨S262144x8x1x1, .i1⟩
  | 10 => ⟨S_, .i1⟩
  | 11 => ⟨S262144x8x1, .i1⟩
  | 12 => ⟨S262144x8x1, .f32⟩
  | 13 => ⟨S_, .f32⟩
  | 14 => ⟨S262144x8x1, .f32⟩
  | 15 => ⟨S262144x8x1, .f32⟩
  | 16 => ⟨S262144x8, .f32⟩
  | 17 => ⟨S262144x8x10, .f32⟩
  | 18 => ⟨S_, .i32⟩
  | 19 => ⟨S262144x8x1, .i32⟩
  | 20 => ⟨S262144x8x1, .i1⟩
  | 21 => ⟨S_, .i32⟩
  | 22 => ⟨S262144x8x1, .i32⟩
  | 23 => ⟨S262144x8x1, .i32⟩
  | 24 => ⟨S262144x8x1, .i32⟩
  | 25 => ⟨S262144x8x1x1, .i32⟩
  | 26 => ⟨S1, .i32⟩
  | 27 => ⟨S_, .i32⟩
  | 28 => ⟨S262144x8x1x1, .i32⟩
  | 29 => ⟨S262144x8x1x1, .i1⟩
  | 30 => ⟨S1x1x1x1, .i32⟩
  | 31 => ⟨S262144x8x1x1, .i32⟩
  | 32 => ⟨S262144x8x1x1, .i1⟩
  | 33 => ⟨S262144x8x1x1, .i1⟩
  | 34 => ⟨S_, .i1⟩
  | 35 => ⟨S262144x8x1, .i1⟩
  | 36 => ⟨S262144x8x1, .f32⟩
  | 37 => ⟨S_, .f32⟩
  | 38 => ⟨S262144x8x1, .f32⟩
  | 39 => ⟨S262144x8x1, .f32⟩
  | 40 => ⟨S262144x8, .f32⟩
  | 41 => ⟨S262144x8, .f32⟩
  | 42 => ⟨S262144x8, .f32⟩
  | 43 => ⟨S262144x8, .f32⟩
  | 44 => ⟨S_, .f32⟩
  | 45 => ⟨S262144x8, .f32⟩
  | 46 => ⟨S262144x8, .f32⟩
  | 47 => ⟨S262144x8, .f32⟩
  | 48 => ⟨S_, .f32⟩
  | 49 => ⟨S262144x8, .f32⟩
  | 50 => ⟨S262144x8, .f32⟩
  | 51 => ⟨S262144x8, .f32⟩
  | 52 => ⟨S262144x8, .f32⟩
  | 53 => ⟨S262144x8, .f32⟩
  | 54 => ⟨S262144x8, .f32⟩
  | 55 => ⟨S262144x8, .f32⟩
  | 56 => ⟨S262144x8, .f32⟩
  | 57 => ⟨S262144x8, .f32⟩
  | 58 => ⟨S262144x8, .f32⟩
  | 59 => ⟨S262144x8, .f32⟩
  | 60 => ⟨S262144x8, .f32⟩
  | 61 => ⟨S262144x8, .f32⟩
  | 62 => ⟨S262144x8, .f32⟩
  | 63 => ⟨S262144x8, .f32⟩
  | 64 => ⟨S_, .f32⟩
  | 65 => ⟨S262144x8, .f32⟩
  | 66 => ⟨S262144x8, .f32⟩
  | 67 => ⟨S262144x8, .f32⟩
  | 68 => ⟨S262144x8, .f32⟩
  | 69 => ⟨S_, .f32⟩
  | 70 => ⟨S262144x8, .f32⟩
  | 71 => ⟨S262144x8, .f32⟩
  | 72 => ⟨S262144x8, .f32⟩
  | 73 => ⟨S262144x8, .f32⟩
  | 74 => ⟨S262144x8, .f32⟩
  | 75 => ⟨S262144x8, .f32⟩
  | 76 => ⟨S262144x8, .f32⟩
  | 77 => ⟨S262144x8, .f32⟩
  | 78 => ⟨S262144x8, .f32⟩
  | 79 => ⟨S262144x8, .f32⟩
  | 80 => ⟨S262144x8, .f32⟩
  | 81 => ⟨S_, .f32⟩
  | 82 => ⟨S262144x8, .f32⟩
  | 83 => ⟨S262144x8, .f32⟩
  | 84 => ⟨S262144x8, .f32⟩
  | 85 => ⟨S262144x8, .f32⟩
  | 86 => ⟨S_, .f32⟩
  | 87 => ⟨S_, .f32⟩
  | 88 => ⟨S262144x8, .f32⟩
  | 89 => ⟨S262144x8, .f32⟩
  | 90 => ⟨S262144x16, .f32⟩
  | 91 => ⟨S_, .f32⟩
  | 92 => ⟨S_, .f32⟩
  | _ => ⟨S262144x16, .f32⟩

abbrev hbmTy (i : Nat) : BufTy := match i / 128 with
  | 0 => hbmTy0_0 i
  | 1 => hbmTy0_1 i
  | 2 => hbmTy0_2 i
  | _ => ⟨S262144x16, .f32⟩

abbrev bufTy : (tb : Table) → Fin (tcTables nBuf tb) → BufTy
  | .hbm, ⟨i, _⟩ => hbmTy i
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_call1_call0_cst : Ref sig .tc := ⟨.hbm, 88, rfl⟩
abbrev main_call1_call0_v0 : Ref sig .tc := ⟨.hbm, 89, rfl⟩
abbrev main_v55 : Ref sig .tc := ⟨.hbm, 90, rfl⟩
abbrev main_cst_8 : Ref sig .tc := ⟨.hbm, 91, rfl⟩
abbrev main_v56 : Ref sig .tc := ⟨.hbm, 92, rfl⟩
abbrev main_v57 : Ref sig .tc := ⟨.hbm, 93, rfl⟩
abbrev main_cst_9 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_10 : Ref sig .tc := ⟨.hbm, 98, rfl⟩
abbrev main_v61 : Ref sig .tc := ⟨.hbm, 99, rfl⟩
abbrev main_call2_call0_cst : Ref sig .tc := ⟨.hbm, 100, rfl⟩
abbrev main_call2_call0_v0 : Ref sig .tc := ⟨.hbm, 101, rfl⟩
abbrev main_v62 : Ref sig .tc := ⟨.hbm, 102, rfl⟩
abbrev main_cst_11 : Ref sig .tc := ⟨.hbm, 103, rfl⟩
abbrev main_v63 : Ref sig .tc := ⟨.hbm, 104, rfl⟩
abbrev main_v64 : Ref sig .tc := ⟨.hbm, 105, rfl⟩
abbrev main_cst_12 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_cst_14 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_15 : Ref sig .tc := ⟨.hbm, 121, rfl⟩
abbrev main_v77 : Ref sig .tc := ⟨.hbm, 122, rfl⟩
abbrev main_v78 : Ref sig .tc := ⟨.hbm, 123, rfl⟩
abbrev main_cst_16 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_17 : Ref sig .tc := ⟨.hbm, 128, rfl⟩
abbrev main_cst_18 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_c : Ref sig .tc := ⟨.hbm, 141, rfl⟩
abbrev main_v88 : Ref sig .tc := ⟨.hbm, 142, rfl⟩
abbrev main_c_19 : Ref sig .tc := ⟨.hbm, 143, rfl⟩
abbrev main_v89 : Ref sig .tc := ⟨.hbm, 144, rfl⟩
abbrev main_v90 : Ref sig .tc := ⟨.hbm, 145, rfl⟩
abbrev main_c_20 : Ref sig .tc := ⟨.hbm, 146, rfl⟩
abbrev main_c_21 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_call5_c : Ref sig .tc := ⟨.hbm, 156, rfl⟩
abbrev main_call5_v0 : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_c_1 : Ref sig .tc := ⟨.hbm, 164, rfl⟩
abbrev main_call5_c_2 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_3 : Ref sig .tc := ⟨.hbm, 172, rfl⟩
abbrev main_call5_v12 : Ref sig .tc := ⟨.hbm, 173, rfl⟩
abbrev main_call5_v13 : Ref sig .tc := ⟨.hbm, 174, rfl⟩
abbrev main_call5_cst : Ref sig .tc := ⟨.hbm, 175, rfl⟩
abbrev main_call5_v14 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_call6_c : Ref sig .tc := ⟨.hbm, 180, rfl⟩
abbrev main_call6_v0 : Ref sig .tc := ⟨.hbm, 181, rfl⟩
abbrev main_call6_v1 : Ref sig .tc := ⟨.hbm, 182, rfl⟩
abbrev main_call6_c_0 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_c_1 : Ref sig .tc := ⟨.hbm, 188, rfl⟩
abbrev main_call6_c_2 : Ref sig .tc := ⟨.hbm, 189, rfl⟩
abbrev main_call6_v6 : Ref sig .tc := ⟨.hbm, 190, rfl⟩
abbrev main_call6_v7 : Ref sig .tc := ⟨.hbm, 191, rfl⟩
abbrev main_call6_v8 : Ref sig .tc := ⟨.hbm, 192, rfl⟩
abbrev main_call6_v9 : Ref sig .tc := ⟨.hbm, 193, rfl⟩
abbrev main_call6_v10 : Ref sig .tc := ⟨.hbm, 194, rfl⟩
abbrev main_call6_v11 : Ref sig .tc := ⟨.hbm, 195, rfl⟩
abbrev main_call6_c_3 : Ref sig .tc := ⟨.hbm, 196, rfl⟩
abbrev main_call6_v12 : Ref sig .tc := ⟨.hbm, 197, rfl⟩
abbrev main_call6_v13 : Ref sig .tc := ⟨.hbm, 198, rfl⟩
abbrev main_call6_cst : Ref sig .tc := ⟨.hbm, 199, rfl⟩
abbrev main_call6_v14 : Ref sig .tc := ⟨.hbm, 200, rfl⟩
abbrev main_v97 : Ref sig .tc := ⟨.hbm, 201, rfl⟩
abbrev main_v98 : Ref sig .tc := ⟨.hbm, 202, rfl⟩
abbrev main_call7_c : Ref sig .tc := ⟨.hbm, 203, rfl⟩
abbrev main_call7_v0 : Ref sig .tc := ⟨.hbm, 204, rfl⟩
abbrev main_call7_v1 : Ref sig .tc := ⟨.hbm, 205, rfl⟩
abbrev main_call7_c_0 : Ref sig .tc := ⟨.hbm, 206, rfl⟩
abbrev main_call7_v2 : Ref sig .tc := ⟨.hbm, 207, rfl⟩
abbrev main_call7_v3 : Ref sig .tc := ⟨.hbm, 208, rfl⟩
abbrev main_call7_v4 : Ref sig .tc := ⟨.hbm, 209, rfl⟩
abbrev main_call7_v5 : Ref sig .tc := ⟨.hbm, 210, rfl⟩
abbrev main_call7_c_1 : Ref sig .tc := ⟨.hbm, 211, rfl⟩
abbrev main_call7_c_2 : Ref sig .tc := ⟨.hbm, 212, rfl⟩
abbrev main_call7_v6 : Ref sig .tc := ⟨.hbm, 213, rfl⟩
abbrev main_call7_v7 : Ref sig .tc := ⟨.hbm, 214, rfl⟩
abbrev main_call7_v8 : Ref sig .tc := ⟨.hbm, 215, rfl⟩
abbrev main_call7_v9 : Ref sig .tc := ⟨.hbm, 216, rfl⟩
abbrev main_call7_v10 : Ref sig .tc := ⟨.hbm, 217, rfl⟩
abbrev main_call7_v11 : Ref sig .tc := ⟨.hbm, 218, rfl⟩
abbrev main_call7_c_3 : Ref sig .tc := ⟨.hbm, 219, rfl⟩
abbrev main_call7_v12 : Ref sig .tc := ⟨.hbm, 220, rfl⟩
abbrev main_call7_v13 : Ref sig .tc := ⟨.hbm, 221, rfl⟩
abbrev main_call7_cst : Ref sig .tc := ⟨.hbm, 222, rfl⟩
abbrev main_call7_v14 : Ref sig .tc := ⟨.hbm, 223, rfl⟩
abbrev main_v99 : Ref sig .tc := ⟨.hbm, 224, rfl⟩
abbrev main_v100 : Ref sig .tc := ⟨.hbm, 225, rfl⟩
abbrev main_call8_c : Ref sig .tc := ⟨.hbm, 226, rfl⟩
abbrev main_call8_v0 : Ref sig .tc := ⟨.hbm, 227, rfl⟩
abbrev main_call8_v1 : Ref sig .tc := ⟨.hbm, 228, rfl⟩
abbrev main_call8_c_0 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_call8_v5 : Ref sig .tc := ⟨.hbm, 233, rfl⟩
abbrev main_call8_c_1 : Ref sig .tc := ⟨.hbm, 234, rfl⟩
abbrev main_call8_c_2 : Ref sig .tc := ⟨.hbm, 235, rfl⟩
abbrev main_call8_v6 : Ref sig .tc := ⟨.hbm, 236, rfl⟩
abbrev main_call8_v7 : Ref sig .tc := ⟨.hbm, 237, rfl⟩
abbrev main_call8_v8 : Ref sig .tc := ⟨.hbm, 238, rfl⟩
abbrev main_call8_v9 : Ref sig .tc := ⟨.hbm, 239, rfl⟩
abbrev main_call8_v10 : Ref sig .tc := ⟨.hbm, 240, rfl⟩
abbrev main_call8_v11 : Ref sig .tc := ⟨.hbm, 241, rfl⟩
abbrev main_call8_c_3 : Ref sig .tc := ⟨.hbm, 242, rfl⟩
abbrev main_call8_v12 : Ref sig .tc := ⟨.hbm, 243, rfl⟩
abbrev main_call8_v13 : Ref sig .tc := ⟨.hbm, 244, rfl⟩
abbrev main_call8_cst : Ref sig .tc := ⟨.hbm, 245, rfl⟩
abbrev main_call8_v14 : Ref sig .tc := ⟨.hbm, 246, rfl⟩
abbrev main_v101 : Ref sig .tc := ⟨.hbm, 247, rfl⟩
abbrev main_v102 : Ref sig .tc := ⟨.hbm, 248, rfl⟩
abbrev main_v103 : Ref sig .tc := ⟨.hbm, 249, rfl⟩
abbrev main_call9_c : Ref sig .tc := ⟨.hbm, 250, rfl⟩
abbrev main_call9_v0 : Ref sig .tc := ⟨.hbm, 251, rfl⟩
abbrev main_call9_v1 : Ref sig .tc := ⟨.hbm, 252, rfl⟩
abbrev main_call9_c_0 : Ref sig .tc := ⟨.hbm, 253, rfl⟩
abbrev main_call9_v2 : Ref sig .tc := ⟨.hbm, 254, rfl⟩
abbrev main_call9_v3 : Ref sig .tc := ⟨.hbm, 255, rfl⟩
abbrev main_call9_v4 : Ref sig .tc := ⟨.hbm, 256, rfl⟩
abbrev main_call9_v5 : Ref sig .tc := ⟨.hbm, 257, rfl⟩
abbrev main_call9_c_1 : Ref sig .tc := ⟨.hbm, 258, rfl⟩
abbrev main_call9_c_2 : Ref sig .tc := ⟨.hbm, 259, rfl⟩
abbrev main_call9_v6 : Ref sig .tc := ⟨.hbm, 260, rfl⟩
abbrev main_call9_v7 : Ref sig .tc := ⟨.hbm, 261, rfl⟩
abbrev main_call9_v8 : Ref sig .tc := ⟨.hbm, 262, rfl⟩
abbrev main_call9_v9 : Ref sig .tc := ⟨.hbm, 263, rfl⟩
abbrev main_call9_v10 : Ref sig .tc := ⟨.hbm, 264, rfl⟩
abbrev main_call9_v11 : Ref sig .tc := ⟨.hbm, 265, rfl⟩
abbrev main_call9_c_3 : Ref sig .tc := ⟨.hbm, 266, rfl⟩
abbrev main_call9_v12 : Ref sig .tc := ⟨.hbm, 267, rfl⟩
abbrev main_call9_v13 : Ref sig .tc := ⟨.hbm, 268, rfl⟩
abbrev main_call9_cst : Ref sig .tc := ⟨.hbm, 269, rfl⟩
abbrev main_call9_v14 : Ref sig .tc := ⟨.hbm, 270, rfl⟩
abbrev main_v104 : Ref sig .tc := ⟨.hbm, 271, rfl⟩
abbrev main_v105 : Ref sig .tc := ⟨.hbm, 272, rfl⟩
abbrev main_v106 : Ref sig .tc := ⟨.hbm, 273, rfl⟩
abbrev main_call10_c : Ref sig .tc := ⟨.hbm, 274, rfl⟩
abbrev main_call10_v0 : Ref sig .tc := ⟨.hbm, 275, rfl⟩
abbrev main_call10_v1 : Ref sig .tc := ⟨.hbm, 276, rfl⟩
abbrev main_call10_c_0 : Ref sig .tc := ⟨.hbm, 277, rfl⟩
abbrev main_call10_v2 : Ref sig .tc := ⟨.hbm, 278, rfl⟩
abbrev main_call10_v3 : Ref sig .tc := ⟨.hbm, 279, rfl⟩
abbrev main_call10_v4 : Ref sig .tc := ⟨.hbm, 280, rfl⟩
abbrev main_call10_v5 : Ref sig .tc := ⟨.hbm, 281, rfl⟩
abbrev main_call10_c_1 : Ref sig .tc := ⟨.hbm, 282, rfl⟩
abbrev main_call10_c_2 : Ref sig .tc := ⟨.hbm, 283, rfl⟩
abbrev main_call10_v6 : Ref sig .tc := ⟨.hbm, 284, rfl⟩
abbrev main_call10_v7 : Ref sig .tc := ⟨.hbm, 285, rfl⟩
abbrev main_call10_v8 : Ref sig .tc := ⟨.hbm, 286, rfl⟩
abbrev main_call10_v9 : Ref sig .tc := ⟨.hbm, 287, rfl⟩
abbrev main_call10_v10 : Ref sig .tc := ⟨.hbm, 288, rfl⟩
abbrev main_call10_v11 : Ref sig .tc := ⟨.hbm, 289, rfl⟩
abbrev main_call10_c_3 : Ref sig .tc := ⟨.hbm, 290, rfl⟩
abbrev main_call10_v12 : Ref sig .tc := ⟨.hbm, 291, rfl⟩
abbrev main_call10_v13 : Ref sig .tc := ⟨.hbm, 292, rfl⟩
abbrev main_call10_cst : Ref sig .tc := ⟨.hbm, 293, rfl⟩
abbrev main_call10_v14 : Ref sig .tc := ⟨.hbm, 294, rfl⟩
abbrev main_v107 : Ref sig .tc := ⟨.hbm, 295, rfl⟩
abbrev main_v108 : Ref sig .tc := ⟨.hbm, 296, rfl⟩
abbrev main_v109 : Ref sig .tc := ⟨.hbm, 297, rfl⟩
abbrev main_v110 : Ref sig .tc := ⟨.hbm, 298, rfl⟩
abbrev main_v111 : Ref sig .tc := ⟨.hbm, 299, rfl⟩
abbrev main_cst_22 : Ref sig .tc := ⟨.hbm, 300, rfl⟩
abbrev main_v112 : Ref sig .tc := ⟨.hbm, 301, rfl⟩
abbrev main_v113 : Ref sig .tc := ⟨.hbm, 302, rfl⟩
abbrev main_v114 : Ref sig .tc := ⟨.hbm, 303, rfl⟩
abbrev main_cst_23 : Ref sig .tc := ⟨.hbm, 304, rfl⟩
abbrev main_v115 : Ref sig .tc := ⟨.hbm, 305, rfl⟩
abbrev main_v116 : Ref sig .tc := ⟨.hbm, 306, rfl⟩
abbrev main_v117 : Ref sig .tc := ⟨.hbm, 307, rfl⟩
abbrev main_v118 : Ref sig .tc := ⟨.hbm, 308, rfl⟩
abbrev main_v119 : Ref sig .tc := ⟨.hbm, 309, rfl⟩
abbrev main_v120 : Ref sig .tc := ⟨.hbm, 310, rfl⟩
abbrev main_v121 : Ref sig .tc := ⟨.hbm, 311, rfl⟩
abbrev main_v122 : Ref sig .tc := ⟨.hbm, 312, rfl⟩
abbrev main_v123 : Ref sig .tc := ⟨.hbm, 313, rfl⟩
abbrev main_v124 : Ref sig .tc := ⟨.hbm, 314, rfl⟩
abbrev main_v125 : Ref sig .tc := ⟨.hbm, 315, rfl⟩
abbrev main_v126 : Ref sig .tc := ⟨.hbm, 316, rfl⟩
abbrev main_v127 : Ref sig .tc := ⟨.hbm, 317, rfl⟩
abbrev main_v128 : Ref sig .tc := ⟨.hbm, 318, rfl⟩
abbrev main_v129 : Ref sig .tc := ⟨.hbm, 319, rfl⟩
abbrev main_cst_24 : Ref sig .tc := ⟨.hbm, 320, rfl⟩
abbrev main_v130 : Ref sig .tc := ⟨.hbm, 321, rfl⟩
abbrev main_v131 : Ref sig .tc := ⟨.hbm, 322, rfl⟩
abbrev main_v132 : Ref sig .tc := ⟨.hbm, 323, rfl⟩
abbrev main_v133 : Ref sig .tc := ⟨.hbm, 324, rfl⟩
abbrev main_cst_25 : Ref sig .tc := ⟨.hbm, 325, rfl⟩
abbrev main_v134 : Ref sig .tc := ⟨.hbm, 326, rfl⟩
abbrev main_v135 : Ref sig .tc := ⟨.hbm, 327, rfl⟩
abbrev main_v136 : Ref sig .tc := ⟨.hbm, 328, rfl⟩
abbrev main_v137 : Ref sig .tc := ⟨.hbm, 329, rfl⟩
abbrev main_v138 : Ref sig .tc := ⟨.hbm, 330, rfl⟩
abbrev main_v139 : Ref sig .tc := ⟨.hbm, 331, rfl⟩
abbrev main_v140 : Ref sig .tc := ⟨.hbm, 332, rfl⟩
abbrev main_v141 : Ref sig .tc := ⟨.hbm, 333, rfl⟩
abbrev main_v142 : Ref sig .tc := ⟨.hbm, 334, rfl⟩
abbrev main_v143 : Ref sig .tc := ⟨.hbm, 335, rfl⟩
abbrev main_v144 : Ref sig .tc := ⟨.hbm, 336, rfl⟩
abbrev main_cst_26 : Ref sig .tc := ⟨.hbm, 337, rfl⟩
abbrev main_v145 : Ref sig .tc := ⟨.hbm, 338, rfl⟩
abbrev main_v146 : Ref sig .tc := ⟨.hbm, 339, rfl⟩
abbrev main_v147 : Ref sig .tc := ⟨.hbm, 340, rfl⟩
abbrev main_v148 : Ref sig .tc := ⟨.hbm, 341, rfl⟩
abbrev main_cst_27 : Ref sig .tc := ⟨.hbm, 342, rfl⟩
abbrev main_call12_v0 : Ref sig .tc := ⟨.hbm, 343, rfl⟩
abbrev main_call12_v1 : Ref sig .tc := ⟨.hbm, 344, rfl⟩
abbrev main_v149 : Ref sig .tc := ⟨.hbm, 345, rfl⟩
abbrev main_v150 : Ref sig .tc := ⟨.hbm, 346, rfl⟩
abbrev main_cst_28 : Ref sig .tc := ⟨.hbm, 347, rfl⟩
abbrev main_v151 : Ref sig .tc := ⟨.hbm, 348, rfl⟩

abbrev nD : Nat := 1
abbrev τ : Topo := Topo.v7x

variable {F : FTy → Type} [FloatOps F]
-- ==== Proof.Spline.Spec.lean ====
/-
  One coordinate of the rational-quadratic spline, as numbers: the bins' edges, the bin a point falls in, the shape parameters
  of that bin, and the two outputs (the transformed coordinate and the log-derivative). Both programs are shown to compute these.
-/
module

public import Idealize.ShloMosaic.PureOps.Ideal
public import Mathlib.Algebra.BigOperators.Fin
public import Mathlib.Tactic.FieldSimp
public import Mathlib.Tactic.Linarith
public import Mathlib.Tactic.Positivity
public import Mathlib.Tactic.Ring

@[expose] public section

noncomputable section

namespace Cert.Spline

open Idealize.ShloMosaic
open scoped BigOperators

/-- The sum of the ten weights. -/
def tot (E : Fin 10 → ℝ) : ℝ := ∑ k, E k

/-- The sum of the weights before position `k`. -/
def cum (E : Fin 10 → ℝ) (k : ℕ) : ℝ := ∑ j : Fin 10, if j.val < k then E j else 0

/-- The left edge of bin `k`: the interval `[-3, 3]` cut in proportion to the weights. -/
def knot (E : Fin 10 → ℝ) (k : ℕ) : ℝ := -3 + 6 * (cum E k / tot E)

/-- The length of bin `i`. -/
def width (E : Fin 10 → ℝ) (i : Fin 10) : ℝ := 6 * (E i / tot E)

/-- The point clipped to `[-3, 3]`, a real number whatever extended real it was. -/
def clipR (u : EReal) : ℝ := (min ((3 : ℝ) : EReal) (max ((-3 : ℝ) : EReal) u)).toReal

/-- The bin that holds `t`: the last whose left edge is at most `t`. -/
def bin (E : Fin 10 → ℝ) (t : ℝ) : Fin 10 :=
  open Classical in
  if h : ∃ i : Fin 10, ∀ p : Fin 10, knot E p ≤ t ↔ p ≤ i then h.choose else 0

/-- The slope at a bin's left edge: one at the interval's own left end. -/
def left (s : Fin 9 → EReal) (i : Fin 10) : EReal := if h : i.val = 0 then 1 else s ⟨i.val - 1, by omega⟩

/-- The slope at a bin's right edge: one at the interval's own right end. -/
def right (s : Fin 9 → EReal) (i : Fin 10) : EReal := if h : i.val < 9 then s ⟨i.val, h⟩ else 1

/-- The point's relative position in its bin. -/
def pos (E : Fin 10 → ℝ) (t : ℝ) : ℝ := (t - knot E (bin E t)) / width E (bin E t)

/-- The mean slope of the bin. -/
def mean (E H : Fin 10 → ℝ) (t : ℝ) : ℝ := width H (bin E t) / width E (bin E t)

/-- The denominator of the rational function. -/
def denom (sk x : ℝ) (dk dk1 : EReal) : EReal := sk + (((dk1 + dk) - ((2 : ℝ) : EReal) * sk) * x) * (1 - (x : EReal))

/-- The transformed coordinate inside the interval. -/
def inner (yk hk sk x : ℝ) (dk dk1 : EReal) : EReal :=
  yk + Ideal.div (hk * (((sk : EReal) * x) * x + (dk * x) * (1 - (x : EReal)))) (denom sk x dk dk1)

/-- The log-derivative inside the interval. -/
def logd (sk x : ℝ) (dk dk1 : EReal) : EReal :=
  ((((2 : ℝ) : EReal) * Ideal.log (sk : EReal)) + Ideal.log (((dk1 * x) * x + ((((2 : ℝ) : EReal) * (sk : EReal)) * x) * (1 - (x : EReal)))
    + (dk * (1 - (x : EReal))) * (1 - (x : EReal)))) - ((2 : ℝ) : EReal) * Ideal.log (denom sk x dk dk1)

/-- The transformed coordinate: the spline inside the interval, the coordinate itself outside it. -/
def zOf (u : EReal) (E H : Fin 10 → ℝ) (s : Fin 9 → EReal) : EReal :=
  if ((-3 : ℝ) : EReal) < u ∧ u < ((3 : ℝ) : EReal) then
    inner (knot H (bin E (clipR u))) (width H (bin E (clipR u))) (mean E H (clipR u)) (pos E (clipR u))
      (left s (bin E (clipR u))) (right s (bin E (clipR u)))
  else u

/-- The log-derivative: zero outside the interval. -/
def ldOf (u : EReal) (E H : Fin 10 → ℝ) (s : Fin 9 → EReal) : EReal :=
  if ((-3 : ℝ) : EReal) < u ∧ u < ((3 : ℝ) : EReal) then
    logd (mean E H (clipR u)) (pos E (clipR u)) (left s (bin E (clipR u))) (right s (bin E (clipR u)))
  else 0

/-- The hidden layers' output is a hyperbolic tangent, so a real number; a real number's extended form is kept. -/
theorem tanh_real (x : EReal) : ∃ r : ℝ, Ideal.tanh x = (r : EReal) ∧ |r| ≤ 1 := by
  induction x using EReal.rec with
  | bot => exact ⟨-1, by simp [Ideal.tanh_bot], by norm_num⟩
  | coe x =>
    refine ⟨Real.tanh x, by rw [Ideal.tanh_coe], ?_⟩
    exact (Real.abs_tanh_lt_one x).le
  | top => exact ⟨1, by simp [Ideal.tanh_top], by norm_num⟩

/-- Clipping gives a real number. -/
theorem clip_coe (u : EReal) : min ((3 : ℝ) : EReal) (max ((-3 : ℝ) : EReal) u) = (clipR u : EReal) := by
  refine (EReal.coe_toReal (ne_of_lt ?_) (ne_of_gt ?_)).symm
  · exact lt_of_le_of_lt (min_le_left _ _) (EReal.coe_lt_top 3)
  · exact lt_of_lt_of_le (EReal.bot_lt_coe (-3)) (le_min (EReal.coe_le_coe_iff.2 (by norm_num)) (le_max_left _ _))

/-- The clipped point is at least the interval's left end. -/
theorem clipR_ge (u : EReal) : -3 ≤ clipR u := by
  have h : ((-3 : ℝ) : EReal) ≤ (clipR u : EReal) := by
    rw [← clip_coe]
    exact le_min (EReal.coe_le_coe_iff.2 (by norm_num)) (le_max_left _ _)
  exact EReal.coe_le_coe_iff.1 h

theorem tot_pos (E : Fin 10 → ℝ) (hE : ∀ k, 0 < E k) : 0 < tot E :=
  Finset.sum_pos (fun k _ => hE k) ⟨0, Finset.mem_univ _⟩

theorem width_pos (E : Fin 10 → ℝ) (hE : ∀ k, 0 < E k) (i : Fin 10) : 0 < width E i := by
  have := tot_pos E hE
  have := hE i
  unfold width
  positivity

theorem cum_zero (E : Fin 10 → ℝ) : cum E 0 = 0 := by simp [cum]

theorem cum_mono (E : Fin 10 → ℝ) (hE : ∀ k, 0 < E k) {a b : ℕ} (h : a ≤ b) : cum E a ≤ cum E b := by
  refine Finset.sum_le_sum fun j _ => ?_
  have := (hE j).le
  split_ifs <;> first | omega | linarith

theorem cum_succ (E : Fin 10 → ℝ) (i : Fin 10) : cum E (i.val + 1) = cum E i.val + E i := by
  unfold cum
  have h : ∀ j : Fin 10, (if j.val < i.val + 1 then E j else 0) = (if j.val < i.val then E j else 0) + (if j = i then E j else 0) := by
    intro j
    by_cases h1 : j = i
    · subst h1; simp
    · have : j.val ≠ i.val := fun e => h1 (Fin.ext e)
      by_cases h2 : j.val < i.val
      · rw [if_pos (by omega), if_pos h2, if_neg h1, add_zero]
      · rw [if_neg (by omega), if_neg h2, if_neg h1, add_zero]
  rw [Finset.sum_congr rfl fun j _ => h j, Finset.sum_add_distrib, Finset.sum_ite_eq' Finset.univ i E, if_pos (Finset.mem_univ i)]

theorem knot_mono (E : Fin 10 → ℝ) (hE : ∀ k, 0 < E k) {a b : ℕ} (h : a ≤ b) : knot E a ≤ knot E b := by
  have h1 := cum_mono E hE h
  have h2 := tot_pos E hE
  have h3 : cum E a / tot E ≤ cum E b / tot E := by gcongr
  unfold knot
  linarith

theorem knot_zero (E : Fin 10 → ℝ) : knot E 0 = -3 := by simp [knot, cum_zero]

/-- The next edge less this one is the bin's length. -/
theorem knot_succ (E : Fin 10 → ℝ) (i : Fin 10) : knot E (i.val + 1) - knot E i.val = width E i := by
  unfold knot width
  rw [cum_succ]
  ring

/-- The bins whose left edge is at most a point of the interval are the ones up to the bin that holds it. -/
theorem bin_spec (E : Fin 10 → ℝ) (hE : ∀ k, 0 < E k) (t : ℝ) (ht : -3 ≤ t) (p : Fin 10) : knot E p ≤ t ↔ p ≤ bin E t := by
  classical
  have h : ∃ i : Fin 10, ∀ p : Fin 10, knot E p ≤ t ↔ p ≤ i := by
    let T : Finset (Fin 10) := Finset.univ.filter fun p => knot E p.val ≤ t
    have h0 : (0 : Fin 10) ∈ T := Finset.mem_filter.2 ⟨Finset.mem_univ _, by
      show knot E 0 ≤ t
      rw [knot_zero]; exact ht⟩
    refine ⟨T.max' ⟨0, h0⟩, fun p => ⟨fun hp => Finset.le_max' T p (Finset.mem_filter.2 ⟨Finset.mem_univ _, hp⟩), fun hp => ?_⟩⟩
    exact (knot_mono E hE hp).trans (Finset.mem_filter.1 (T.max'_mem ⟨0, h0⟩)).2
  unfold bin
  rw [dif_pos h]
  exact h.choose_spec p

/-- The comparison without a division: the weights before bin `p` against the point's height times a sixth of the total. -/
theorem cum_le_iff (E : Fin 10 → ℝ) (hE : ∀ k, 0 < E k) (t : ℝ) (p : ℕ) : cum E p ≤ (t + 3) * (tot E * 6⁻¹) ↔ knot E p ≤ t := by
  have h := tot_pos E hE
  unfold knot
  have e : cum E p = cum E p / tot E * tot E := by field_simp
  constructor
  · intro hc
    have : cum E p / tot E ≤ (t + 3) * 6⁻¹ := by
      rw [div_le_iff₀ h]; linarith
    linarith
  · intro hc
    have : cum E p / tot E ≤ (t + 3) * 6⁻¹ := by linarith
    rw [div_le_iff₀ h] at this
    linarith

/-- The relative position without the bin's edges: the excess over the weights before the bin, over the bin's own weight. -/
theorem pos_eq (E : Fin 10 → ℝ) (hE : ∀ k, 0 < E k) (t : ℝ) :
    ((t + 3) * (tot E * 6⁻¹) - cum E (bin E t)) * (1 / E (bin E t)) = pos E t := by
  have h := tot_pos E hE
  have h1 := hE (bin E t)
  unfold pos knot width
  field_simp
  ring

/-- The mean slope from the raw weights. -/
theorem mean_eq (E H : Fin 10 → ℝ) (hE : ∀ k, 0 < E k) (hH : ∀ k, 0 < H k) (t : ℝ) :
    (H (bin E t) * (1 / E (bin E t))) * (tot E / tot H) = mean E H t := by
  have h := tot_pos E hE
  have h' := tot_pos H hH
  have h1 := hE (bin E t)
  unfold mean width
  field_simp

end Cert.Spline

end

end
-- ==== Proof.Spline.Layers.lean ====
/-
  The numbers the programs' literals denote, comparisons as propositions, and the layers of the small network as functions of one row
  of the input: the hidden layer, the weights of the bins, and the slopes.
-/
module

public import proofs.«01_k».proof.Proof.Spline.Spec
public import Idealize.ShloMosaic.PureOps.Ideal.Laws
public import Idealize.ShloMosaic.Lib.ValueIdxCore

@[expose] public section

noncomputable section

namespace Cert.Spline

open Idealize.ShloMosaic Idealize.ShloMosaic.ValueIdx
open scoped BigOperators

theorem lit_zero : Ideal.ofBits .f32 0x00000000#32 = 0 := by simp [Ideal.ofBits, Ideal.ieee, -EReal.coe_mul]
theorem lit_one : Ideal.ofBits .f32 0x3F800000#32 = ((1 : ℝ) : EReal) := by simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_neg_three : Ideal.ofBits .f32 0xC0400000#32 = ((-3 : ℝ) : EReal) := by
  simp [Ideal.ofBits, Ideal.ieee, -EReal.coe_mul]; norm_num
theorem lit_six : Ideal.ofBits .f32 0x40C00000#32 = ((6 : ℝ) : EReal) := by
  simp [Ideal.ofBits, Ideal.ieee, -EReal.coe_mul]; norm_num
theorem lit_thirteen : Ideal.ofBits .f32 0x41500000#32 = ((13 : ℝ) : EReal) := by
  simp [Ideal.ofBits, Ideal.ieee, -EReal.coe_mul]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]
/-- The guard's literal is a positive number below `2⁻¹¹⁶`. -/
theorem lit_tiny : ∃ r : ℝ, Ideal.ofBits .f32 0x0554AD2E#32 = (r : EReal) ∧ r ≤ 2 ^ (-116 : ℤ) := by
  have e : Ideal.ofBits .f32 0x0554AD2E#32 = ((13937966 * 2 ^ (-140 : ℤ) : ℝ) : EReal) := by
    simp [Ideal.ofBits, Ideal.ieee, -EReal.coe_mul]
  exact ⟨_, e, by norm_num⟩

theorem cmp_oge (x y : EReal) : Ideal.cmp .oge x y = if y ≤ x then 1#1 else 0#1 := by
  unfold Ideal.cmp
  by_cases h : y ≤ x <;> simp [h]
theorem cmp_ogt (x y : EReal) : Ideal.cmp .ogt x y = if y < x then 1#1 else 0#1 := by
  unfold Ideal.cmp
  by_cases h : y < x <;> simp [h]
theorem cmp_olt (x y : EReal) : Ideal.cmp .olt x y = if x < y then 1#1 else 0#1 := by
  unfold Ideal.cmp
  by_cases h : x < y <;> simp [h]
theorem cmp_ole (x y : EReal) : Ideal.cmp .ole x y = if x ≤ y then 1#1 else 0#1 := by
  unfold Ideal.cmp
  by_cases h : x ≤ y <;> simp [h]
theorem cmp_oeq (x y : EReal) : Ideal.cmp .oeq x y = if x = y then 1#1 else 0#1 := by
  unfold Ideal.cmp
  by_cases h : x = y <;> simp [h]
theorem cmp_une_self (x : EReal) : Ideal.cmp .une x x = 0#1 := by
  unfold Ideal.cmp
  simp

theorem coe_max (a b : ℝ) : ((max a b : ℝ) : EReal) = max (a : EReal) (b : EReal) := EReal.coe_strictMono.monotone.map_max

/-- A finite sum of real numbers is a real number. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Position `k` of coordinate `d` among the eighty weight logits. -/
def q80 (d : Fin 8) (k : Fin 10) : Fin 80 := ⟨10 * d.val + k.val, by omega⟩

/-- Position `p` of coordinate `d` among the seventy-two slope logits. -/
def q72 (d : Fin 8) (p : Fin 9) : Fin 72 := ⟨9 * d.val + p.val, by omega⟩

/-- The network's hidden layer at one row of the input. -/
def hidE (xl : Fin 8 → EReal) (w0 : Fin 8 → Fin 50 → EReal) (w1 : Fin 50 → Fin 50 → EReal) (j : Fin 50) : EReal :=
  Ideal.tanh (∑ k : Fin 50, Ideal.tanh (∑ l : Fin 8, xl l * w0 l k) * w1 k j)

/-- Six times the hidden layer against column `q` of a weight matrix, as a real number. -/
def logit (h : Fin 50 → EReal) (w : Fin 50 → Fin 80 → EReal) (q : Fin 80) : ℝ := 6 * ∑ j : Fin 50, (h j).toReal * (w j q).toReal

/-- The unnormalised weight of bin `k` of coordinate `d`. -/
def wt (h : Fin 50 → EReal) (w : Fin 50 → Fin 80 → EReal) (d : Fin 8) (k : Fin 10) : ℝ := Real.exp (logit h w (q80 d k))

/-- The slope at the inner edge `p` of coordinate `d`: `log (1 + exp r)`. -/
def slope (h : Fin 50 → EReal) (w : Fin 50 → Fin 72 → EReal) (d : Fin 8) (p : Fin 9) : EReal :=
  Ideal.log (1 + Ideal.exp (∑ j : Fin 50, h j * w j (q72 d p)))

theorem wt_pos (h : Fin 50 → EReal) (w : Fin 50 → Fin 80 → EReal) (d : Fin 8) (k : Fin 10) : 0 < wt h w d k := Real.exp_pos _

theorem hidE_real (xl : Fin 8 → EReal) (w0 : Fin 8 → Fin 50 → EReal) (w1 : Fin 50 → Fin 50 → EReal) (j : Fin 50) :
    ∃ r : ℝ, hidE xl w0 w1 j = (r : EReal) ∧ |r| ≤ 1 := tanh_real _

/-- The logit as the sum scaled afterwards. -/
theorem logit_scaled (h : Fin 50 → EReal) (w : Fin 50 → Fin 80 → EReal) (q : Fin 80) (hh : ∀ j, ∃ r : ℝ, h j = (r : EReal))
    (hw : ∀ j, ∃ r : ℝ, w j q = (r : EReal)) : ((6 : ℝ) : EReal) * ∑ j : Fin 50, h j * w j q = (logit h w q : EReal) := by
  unfold logit
  rw [EReal.coe_mul, coe_sum]
  refine congrArg (_ * ·) (Finset.sum_congr rfl fun j _ => ?_)
  obtain ⟨a, ha⟩ := hh j
  obtain ⟨b, hb⟩ := hw j
  rw [ha, hb, EReal.toReal_coe, EReal.toReal_coe, EReal.coe_mul]

/-- The logit with the scale inside each term. -/
theorem logit_inside (h : Fin 50 → EReal) (w : Fin 50 → Fin 80 → EReal) (q : Fin 80) (hh : ∀ j, ∃ r : ℝ, h j = (r : EReal))
    (hw : ∀ j, ∃ r : ℝ, w j q = (r : EReal)) : ∑ j : Fin 50, (((6 : ℝ) : EReal) * w j q) * h j = (logit h w q : EReal) := by
  unfold logit
  rw [Finset.mul_sum, coe_sum]
  refine Finset.sum_congr rfl fun j _ => ?_
  obtain ⟨a, ha⟩ := hh j
  obtain ⟨b, hb⟩ := hw j
  rw [ha, hb, EReal.toReal_coe, EReal.toReal_coe, ← EReal.coe_mul, ← EReal.coe_mul]
  congr 1
  ring

/-- The stable form of `log (1 + exp x)`, at every extended real. -/
theorem softplus_eq (x : EReal) : max x 0 + Ideal.log1p (Ideal.exp (-(max x (-x)))) = Ideal.log (1 + Ideal.exp x) := by
  unfold Ideal.log1p
  induction x using EReal.rec with
  | bot =>
    simp [Ideal.exp_bot]
  | coe x =>
    rw [show max (x : EReal) (-(x : EReal)) = ((|x| : ℝ) : EReal) by
      rw [← EReal.coe_neg, ← coe_max]; rfl]
    rw [← EReal.coe_neg, Ideal.exp_coe, Ideal.exp_coe, ← EReal.coe_one, ← EReal.coe_add, ← EReal.coe_add, Ideal.log_coe, Ideal.log_coe,
      ← EReal.coe_zero, ← coe_max]
    have h1 : ¬ (1 + Real.exp (-|x|) ≤ 0) := by have := Real.exp_pos (-|x|); linarith
    have h2 : ¬ (1 + Real.exp x ≤ 0) := by have := Real.exp_pos x; linarith
    rw [if_neg h1, if_neg h2, ← EReal.coe_add]
    congr 1
    rcases le_total 0 x with hx | hx
    · rw [max_eq_left hx, abs_of_nonneg hx]
      have : 1 + Real.exp x = Real.exp x * (1 + Real.exp (-x)) := by
        rw [mul_add, ← Real.exp_add]; simp; ring
      rw [this, Real.log_mul (Real.exp_pos x).ne' (by have := Real.exp_pos (-x); linarith), Real.log_exp]
    · rw [max_eq_right hx, abs_of_nonpos hx, neg_neg, zero_add]
  | top =>
    rw [EReal.neg_top, max_eq_left (le_top : (⊥ : EReal) ≤ ⊤), max_eq_left (le_top : (0 : EReal) ≤ ⊤), EReal.neg_top, Ideal.exp_bot, Ideal.exp_top,
      ← EReal.coe_one, ← EReal.coe_zero, ← EReal.coe_add, Ideal.log_coe, EReal.coe_add_top, Ideal.log_top, if_neg (by norm_num), EReal.top_add_coe]

/-- A normalised exponential does not change when every exponent is lowered by the same real number. -/
theorem softmax_eq (a : Fin 10 → ℝ) (M : ℝ) (k : Fin 10) :
    Ideal.div (Ideal.exp ((a k : EReal) - (M : EReal))) (0 + ∑ j : Fin 10, Ideal.exp ((a j : EReal) - (M : EReal)))
      = ((Real.exp (a k) / tot (fun j => Real.exp (a j)) : ℝ) : EReal) := by
  have e : ∀ j, Ideal.exp ((a j : EReal) - (M : EReal)) = ((Real.exp (a j - M) : ℝ) : EReal) := fun j => by
    rw [← EReal.coe_sub, Ideal.exp_coe]
  simp only [e]
  have hp : 0 < ∑ j : Fin 10, Real.exp (a j - M) := Finset.sum_pos (fun j _ => Real.exp_pos _) ⟨0, Finset.mem_univ _⟩
  rw [zero_add, ← coe_sum, Ideal.div_coe hp.ne', ← EReal.coe_mul]
  congr 1
  have hs : ∑ j : Fin 10, Real.exp (a j - M) = tot (fun j => Real.exp (a j)) * Real.exp (-M) := by
    unfold tot
    rw [Finset.sum_mul]
    exact Finset.sum_congr rfl fun j _ => by rw [← Real.exp_add, sub_eq_add_neg]
  have ht : 0 < tot (fun j => Real.exp (a j)) := tot_pos _ fun j => Real.exp_pos _
  have hM := Real.exp_pos (-M)
  rw [hs, sub_eq_add_neg, Real.exp_add]
  field_simp

/-- A matrix as a function of its row and its column. -/
def mat {a b : Nat} (w : (⟨2, ![a, b]⟩ : Shape).Idx → EReal) (i : Fin a) (j : Fin b) : EReal := w (ix2 i j)

/-- The position in a row of the input of a coordinate that passes through. -/
def lo (l : Fin 8) : Fin 16 := ⟨l.val, by omega⟩

/-- The position in a row of the input of a coordinate that is transformed. -/
def hi (d : Fin 8) : Fin 16 := ⟨8 + d.val, by omega⟩

/-- The hidden layer at row `n` of the input. -/
def hRow (x : (⟨2, ![262144, 16]⟩ : Shape).Idx → EReal) (w0 : (⟨2, ![8, 50]⟩ : Shape).Idx → EReal)
    (w1 : (⟨2, ![50, 50]⟩ : Shape).Idx → EReal) (n : Fin 262144) : Fin 50 → EReal :=
  hidE (fun l => x (ix2 n (lo l))) (mat w0) (mat w1)

/-- The transformed coordinate `d` of row `n`. -/
def zArr (x : (⟨2, ![262144, 16]⟩ : Shape).Idx → EReal) (w0 : (⟨2, ![8, 50]⟩ : Shape).Idx → EReal)
    (w1 : (⟨2, ![50, 50]⟩ : Shape).Idx → EReal) (ww wh : (⟨2, ![50, 80]⟩ : Shape).Idx → EReal)
    (wd : (⟨2, ![50, 72]⟩ : Shape).Idx → EReal) (n : Fin 262144) (d : Fin 8) : EReal :=
  zOf (x (ix2 n (hi d))) (wt (hRow x w0 w1 n) (mat ww) d) (wt (hRow x w0 w1 n) (mat wh) d) (slope (hRow x w0 w1 n) (mat wd) d)

/-- The log-derivative of coordinate `d` of row `n`. -/
def ldArr (x : (⟨2, ![262144, 16]⟩ : Shape).Idx → EReal) (w0 : (⟨2, ![8, 50]⟩ : Shape).Idx → EReal)
    (w1 : (⟨2, ![50, 50]⟩ : Shape).Idx → EReal) (ww wh : (⟨2, ![50, 80]⟩ : Shape).Idx → EReal)
    (wd : (⟨2, ![50, 72]⟩ : Shape).Idx → EReal) (n : Fin 262144) (d : Fin 8) : EReal :=
  ldOf (x (ix2 n (hi d))) (wt (hRow x w0 w1 n) (mat ww) d) (wt (hRow x w0 w1 n) (mat wh) d) (slope (hRow x w0 w1 n) (mat wd) d)

/-- The first result: a row's first eight coordinates as they are, its last eight transformed. -/
def outArr (x : (⟨2, ![262144, 16]⟩ : Shape).Idx → EReal) (w0 : (⟨2, ![8, 50]⟩ : Shape).Idx → EReal)
    (w1 : (⟨2, ![50, 50]⟩ : Shape).Idx → EReal) (ww wh : (⟨2, ![50, 80]⟩ : Shape).Idx → EReal)
    (wd : (⟨2, ![50, 72]⟩ : Shape).Idx → EReal) (n : Fin 262144) (c : Fin 16) : EReal :=
  if h : c.val < 8 then x (ix2 n c) else zArr x w0 w1 ww wh wd n ⟨c.val - 8, by omega⟩

end Cert.Spline

end

end
-- ==== Proof.Spline.KDots.lean ====
/-
  The kernel's matrix products read at an index, and the sums over eighty rows that its tables of zeros and ones select.
-/
module

public import proofs.«01_k».proof.Proof.Gen.KernelIdeal.Skeleton
public import proofs.«01_k».proof.Proof.Spline.Layers
public import Idealize.ShloMosaic.Lib.Pointwise

@[expose] public section

noncomputable section

namespace Cert.Spline

open Idealize.ShloMosaic hiding ix1 ix2 ix3 ix4 eq_ix1 eq_ix2 eq_ix3
open Idealize.ShloMosaic.ValueIdx Cert.KernelIdeal Cert.KernelIdeal.Gen
open scoped BigOperators

/-- The product into 50 rows, at row `r` and lane `t`. -/
theorem mm_8x50 (l : FVec Ideal S8x50 .f32) (x : FVec Ideal S8x4096 .f32) (r : Fin 50) (t : Fin 4096) :
    matmul dot_S8x50_S8x4096_S50x4096_0_0_1_1_n_n none l x (constant S50x4096 .f32 0x00000000#32) (ix2 r t) = ∑ k : Fin 8, l (ix2 k r) * x (ix2 k t) := by
  simp only [← Idealize.ShloMosaic.ix2_eq_valueIdx, pointwise, zero_add]

/-- The product into 50 rows, at row `r` and lane `t`. -/
theorem mm_50x50 (l : FVec Ideal S50x50 .f32) (x : FVec Ideal S50x4096 .f32) (r : Fin 50) (t : Fin 4096) :
    matmul dot_S50x50_S50x4096_S50x4096_0_0_1_1_n_n none l x (constant S50x4096 .f32 0x00000000#32) (ix2 r t) = ∑ k : Fin 50, l (ix2 k r) * x (ix2 k t) := by
  simp only [← Idealize.ShloMosaic.ix2_eq_valueIdx, pointwise, zero_add]

/-- The product into 240 rows, at row `r` and lane `t`. -/
theorem mm_50x240 (l : FVec Ideal S50x240 .f32) (x : FVec Ideal S50x4096 .f32) (r : Fin 240) (t : Fin 4096) :
    matmul dot_S50x240_S50x4096_S240x4096_0_0_1_1_n_n none l x (constant S240x4096 .f32 0x00000000#32) (ix2 r t) = ∑ k : Fin 50, l (ix2 k r) * x (ix2 k t) := by
  simp only [← Idealize.ShloMosaic.ix2_eq_valueIdx, pointwise, zero_add]

/-- The product into 80 rows, at row `r` and lane `t`. -/
theorem mm_80x80 (l : FVec Ideal S80x80 .f32) (x : FVec Ideal S80x4096 .f32) (r : Fin 80) (t : Fin 4096) :
    matmul dot_S80x80_S80x4096_S80x4096_1_0_0_1_n_n none l x (constant S80x4096 .f32 0x00000000#32) (ix2 r t) = ∑ k : Fin 80, l (ix2 r k) * x (ix2 k t) := by
  simp only [← Idealize.ShloMosaic.ix2_eq_valueIdx, pointwise, zero_add]

/-- The product into 8 rows, at row `r` and lane `t`. -/
theorem mm_8x80 (l : FVec Ideal S8x80 .f32) (x : FVec Ideal S80x4096 .f32) (r : Fin 8) (t : Fin 4096) :
    matmul dot_S8x80_S80x4096_S8x4096_1_0_0_1_n_n none l x (constant S8x4096 .f32 0x00000000#32) (ix2 r t) = ∑ k : Fin 80, l (ix2 r k) * x (ix2 k t) := by
  simp only [← Idealize.ShloMosaic.ix2_eq_valueIdx, pointwise, zero_add]

/-- The product into 80 rows, at row `r` and lane `t`. -/
theorem mm_80x8 (l : FVec Ideal S80x8 .f32) (x : FVec Ideal S8x4096 .f32) (r : Fin 80) (t : Fin 4096) :
    matmul dot_S80x8_S8x4096_S80x4096_1_0_0_1_n_n none l x (constant S80x4096 .f32 0x00000000#32) (ix2 r t) = ∑ k : Fin 8, l (ix2 r k) * x (ix2 k t) := by
  simp only [← Idealize.ShloMosaic.ix2_eq_valueIdx, pointwise, zero_add]

/-- The product into 16 rows, at row `r` and lane `t`. -/
theorem mm_16x80 (l : FVec Ideal S16x80 .f32) (x : FVec Ideal S80x4096 .f32) (r : Fin 16) (t : Fin 4096) :
    matmul dot_S16x80_S80x4096_S16x4096_1_0_0_1_n_n none l x (constant S16x4096 .f32 0x00000000#32) (ix2 r t) = ∑ k : Fin 80, l (ix2 r k) * x (ix2 k t) := by
  simp only [← Idealize.ShloMosaic.ix2_eq_valueIdx, pointwise, zero_add]

/-- A slice of rows, read at row `i`: the operand `o` rows further on. -/
theorem slice_rows {α : Type} {a b c : Nat} (o : Nat) (x : (⟨2, ![a, c]⟩ : Shape).Idx → α)
    (h : (⟨2, ![a, c]⟩ : Shape).Slices ![o, 0] ⟨2, ![b, c]⟩) (i : Fin b) (t : Fin c) (q : Fin a) (hq : q.val = o + i.val) :
    extractStridedSlice ⟨2, ![b, c]⟩ ![o, 0] x h (ix2 i t) = x (ix2 q t) :=
  extractStridedSlice_apply _ x h (ix2 i t) (ix2 q t) fun e => match e with
    | ⟨0, _⟩ => hq
    | ⟨1, _⟩ => (Nat.zero_add t.val).symm

/-- Eighty positions are eight coordinates of ten bins. -/
def splitEquiv : Fin 8 × Fin 10 ≃ Fin 80 where
  toFun p := q80 p.1 p.2
  invFun q := (⟨q.val / 10, by omega⟩, ⟨q.val % 10, by omega⟩)
  left_inv p := by
    obtain ⟨d, k⟩ := p
    have hd := d.isLt
    have hk := k.isLt
    refine Prod.ext (Fin.ext ?_) (Fin.ext ?_)
    · show (10 * d.val + k.val) / 10 = d.val
      omega
    · show (10 * d.val + k.val) % 10 = k.val
      omega
  right_inv q := Fin.ext (show 10 * (q.val / 10) + q.val % 10 = q.val by omega)

/-- A sum over the eighty positions, coordinate by coordinate. -/
theorem sum80 (f : Fin 80 → EReal) : ∑ q, f q = ∑ d : Fin 8, ∑ k : Fin 10, f (q80 d k) := by
  rw [← Equiv.sum_comp splitEquiv f, Fintype.sum_prod_type]
  rfl

/-- A table whose row is zero outside coordinate `d` sums over that coordinate's ten bins. -/
theorem masked (w f : Fin 80 → EReal) (d : Fin 8) (c : Fin 10 → EReal) (hw : ∀ d' k, w (q80 d' k) = if d' = d then c k else 0) :
    ∑ q, w q * f q = ∑ k, c k * f (q80 d k) := by
  rw [sum80, Finset.sum_eq_single d]
  · exact Finset.sum_congr rfl fun k _ => by rw [hw, if_pos rfl]
  · intro d' _ hd
    exact Finset.sum_eq_zero fun k _ => by rw [hw, if_neg hd, zero_mul]
  · exact fun h => absurd (Finset.mem_univ _) h

/-- A one-hot sum picks its entry. -/
theorem pick (b : Fin 10) (f : Fin 10 → EReal) : ∑ k, (if k = b then (1 : EReal) else 0) * f k = f b := by
  rw [Finset.sum_eq_single b]
  · rw [if_pos rfl, one_mul]
  · intro k _ hk
    rw [if_neg hk, zero_mul]
  · exact fun h => absurd (Finset.mem_univ _) h

end Cert.Spline

end

end
-- ==== Proof.Spline.KLanes.lean ====
/-
  What one block of the kernel computes in one lane, up to the spline: the hidden layer, the unnormalised weights, their sums and running
  sums, and the slopes.
-/
module

public import proofs.«01_k».proof.Proof.Spline.KDots

@[expose] public section

noncomputable section

namespace Cert.Spline

open Idealize.ShloMosaic hiding ix1 ix2 ix3 ix4 eq_ix1 eq_ix2 eq_ix3
open Idealize.ShloMosaic.ValueIdx Cert.KernelIdeal Cert.KernelIdeal.Gen
open scoped BigOperators

/-- What the kernel's tables of zeros and ones hold, by coordinate and bin. -/
structure Tables (v22 : FVec Ideal S80x80 .f32) (v24 : FVec Ideal S8x80 .f32) (v40 : FVec Ideal S80x8 .f32)
    (v62 v63 : FVec Ideal S16x80 .f32) (v27 : FVec Ideal S80x1 .f32) : Prop where
  exc : ∀ (d : Fin 8) (k : Fin 10) (d' : Fin 8) (k' : Fin 10),
    v22 (ix2 (q80 d k) (q80 d' k')) = if d' = d then (if k'.val < k.val then 1 else 0) else 0
  rept : ∀ (d d' : Fin 8) (k : Fin 10), v24 (ix2 d (q80 d' k)) = if d' = d then 1 else 0
  rep : ∀ (d : Fin 8) (k : Fin 10) (d' : Fin 8), v40 (ix2 (q80 d k) d') = if d' = d then 1 else 0
  rdl : ∀ (d d' : Fin 8) (k : Fin 10), v62 (ix2 (lo d) (q80 d' k)) = if d' = d then (if k.val = 0 then 0 else 1) else 0
  rdh : ∀ (d d' : Fin 8) (k : Fin 10), v62 (ix2 (hi d) (q80 d' k)) = if d' = d then (if k.val = 9 then 0 else 1) else 0
  rbl : ∀ (d d' : Fin 8) (k : Fin 10), v63 (ix2 (lo d) (q80 d' k)) = if d' = d then (if k.val = 0 then 1 else 0) else 0
  rbh : ∀ (d d' : Fin 8) (k : Fin 10), v63 (ix2 (hi d) (q80 d' k)) = if d' = d then (if k.val = 9 then 1 else 0) else 0
  m9 : ∀ (d : Fin 8) (k : Fin 10), v27 (ix2 (q80 d k) (0 : Fin 1)) = if k.val = 9 then 1 else 0

/-- What the joined weight matrix holds: six times the two weight matrices, then the slopes' matrix with a column between coordinates. -/
structure Wcat (v10 : FVec Ideal S50x240 .f32) (ww wh : Fin 50 → Fin 80 → EReal) (wd : Fin 50 → Fin 72 → EReal) : Prop where
  w : ∀ (j : Fin 50) (q : Fin 80), v10 (ix2 j (⟨q.val, by omega⟩ : Fin 240)) = ((6 : ℝ) : EReal) * ww j q
  h : ∀ (j : Fin 50) (q : Fin 80), v10 (ix2 j (⟨80 + q.val, by omega⟩ : Fin 240)) = ((6 : ℝ) : EReal) * wh j q
  d : ∀ (j : Fin 50) (d : Fin 8) (p : Fin 9), v10 (ix2 j (⟨160 + (10 * d.val + p.val), by omega⟩ : Fin 240)) = wd j (q72 d p)
  rw : ∀ (j : Fin 50) (q : Fin 80), ∃ r : ℝ, ww j q = (r : EReal)
  rh : ∀ (j : Fin 50) (q : Fin 80), ∃ r : ℝ, wh j q = (r : EReal)

/-- The hidden layer in lane `t` of a block. -/
def hLane (v0 : FVec Ideal S16x4096 .f32) (v4 : FVec Ideal S8x50 .f32) (v7 : FVec Ideal S50x50 .f32) (t : Fin 4096) : Fin 50 → EReal :=
  hidE (fun l => v0 (ix2 (lo l) t)) (mat v4) (mat v7)

variable {v0 : FVec Ideal S16x4096 .f32} {v4 : FVec Ideal S8x50 .f32} {v7 : FVec Ideal S50x50 .f32} {v10 : FVec Ideal S50x240 .f32}
  {ww wh : Fin 50 → Fin 80 → EReal} {wd : Fin 50 → Fin 72 → EReal} (t : Fin 4096)

theorem hLane_real (j : Fin 50) : ∃ r : ℝ, hLane v0 v4 v7 t j = (r : EReal) :=
  let ⟨r, h, _⟩ := hidE_real (fun l => v0 (ix2 (lo l) t)) (mat v4) (mat v7) j
  ⟨r, h⟩

/-- The block as it was loaded. -/
theorem k_x (c : Fin 16) : k0_pay5 (F := Ideal) v0 (ix2 c t) = v0 (ix2 c t) := by
  unfold k0_pay5
  exact congrFun (shapeCast_self v0 _) _

/-- The transformed half of the block. -/
theorem k_u (d : Fin 8) : k0_pay6 (F := Ideal) v0 (ix2 d t) = v0 (ix2 (hi d) t) :=
  (slice_rows 8 (k0_pay5 (F := Ideal) v0) slices_S16x4096_o8_0_S8x4096 d t (hi d) rfl).trans (k_x t (hi d))

/-- The logits, with the hidden layer as the second factor. -/
theorem k_logits (q : Fin 240) :
    k0_pay7 (F := Ideal) v0 v4 v7 v10 (ix2 q t) = ∑ j : Fin 50, v10 (ix2 j q) * hLane v0 v4 v7 t j := by
  refine (mm_50x240 _ _ q t).trans (Finset.sum_congr rfl fun j _ => ?_)
  refine congrArg₂ (· * ·) (congrFun (shapeCast_self v10 _) _) ?_
  refine congrArg Ideal.tanh ?_
  refine (mm_50x50 _ _ j t).trans (Finset.sum_congr rfl fun k _ => ?_)
  rw [mul_comm]
  refine congrArg₂ (· * ·) (congrArg Ideal.tanh ?_) rfl
  refine (mm_8x50 _ _ k t).trans (Finset.sum_congr rfl fun l _ => ?_)
  rw [mul_comm]
  refine congrArg₂ (· * ·) ?_ rfl
  exact (slice_rows 0 (k0_pay5 (F := Ideal) v0) slices_S16x4096_o0_0_S8x4096 l t (lo l) (Nat.zero_add l.val).symm).trans (k_x t (lo l))

/-- The unnormalised width of bin `k`. -/
theorem k_E (W : Wcat v10 ww wh wd) (d : Fin 8) (k : Fin 10) :
    k0_pay8 (F := Ideal) v0 v4 v7 v10 (ix2 (q80 d k) t) = (wt (hLane v0 v4 v7 t) ww d k : EReal) := by
  have h : extractStridedSlice S80x4096 ![0, 0] (k0_pay7 (F := Ideal) v0 v4 v7 v10) slices_S240x4096_o0_0_S80x4096 (ix2 (q80 d k) t)
      = (logit (hLane v0 v4 v7 t) ww (q80 d k) : EReal) := by
    refine (slice_rows 0 _ _ (q80 d k) t (⟨(q80 d k).val, by omega⟩ : Fin 240) (Nat.zero_add _).symm).trans ?_
    rw [k_logits, ← logit_inside _ _ _ (hLane_real t) (fun j => W.rw j _)]
    exact Finset.sum_congr rfl fun j _ => by rw [W.w]
  exact (congrArg Ideal.exp h).trans (Ideal.exp_coe _)

/-- The unnormalised height of bin `k`. -/
theorem k_H (W : Wcat v10 ww wh wd) (d : Fin 8) (k : Fin 10) :
    k0_pay9 (F := Ideal) v0 v4 v7 v10 (ix2 (q80 d k) t) = (wt (hLane v0 v4 v7 t) wh d k : EReal) := by
  have h : extractStridedSlice S80x4096 ![80, 0] (k0_pay7 (F := Ideal) v0 v4 v7 v10) slices_S240x4096_o80_0_S80x4096 (ix2 (q80 d k) t)
      = (logit (hLane v0 v4 v7 t) wh (q80 d k) : EReal) := by
    refine (slice_rows 80 _ _ (q80 d k) t (⟨80 + (q80 d k).val, by omega⟩ : Fin 240) rfl).trans ?_
    rw [k_logits, ← logit_inside _ _ _ (hLane_real t) (fun j => W.rh j _)]
    exact Finset.sum_congr rfl fun j _ => by rw [W.h]
  exact (congrArg Ideal.exp h).trans (Ideal.exp_coe _)

/-- The slope at the right edge of bin `p`, away from the interval's right end. -/
theorem k_s (W : Wcat v10 ww wh wd) (d : Fin 8) (k : Fin 10) (hk : k.val < 9) :
    k0_pay10 (F := Ideal) v0 v4 v7 v10 (ix2 (q80 d k) t) = slope (hLane v0 v4 v7 t) wd d ⟨k.val, hk⟩ := by
  have h : extractStridedSlice S80x4096 ![160, 0] (k0_pay7 (F := Ideal) v0 v4 v7 v10) slices_S240x4096_o160_0_S80x4096 (ix2 (q80 d k) t)
      = ∑ j : Fin 50, hLane v0 v4 v7 t j * wd j (q72 d ⟨k.val, hk⟩) := by
    refine (slice_rows 160 _ _ (q80 d k) t (⟨160 + (q80 d k).val, by omega⟩ : Fin 240) rfl).trans ?_
    rw [k_logits]
    refine Finset.sum_congr rfl fun j _ => ?_
    rw [mul_comm]
    exact congrArg (_ * ·) (W.d j d ⟨k.val, hk⟩)
  unfold slope
  rw [← h, ← EReal.coe_one, ← lit_one]
  rfl

/-- The slope at the left edge of bin `k`, away from the interval's left end. -/
theorem k_sl (W : Wcat v10 ww wh wd) (d : Fin 8) (k : Fin 10) (hk : k.val ≠ 0) :
    k0_pay15 (F := Ideal) v0 v4 v7 v10 (ix2 (q80 d k) t) = slope (hLane v0 v4 v7 t) wd d ⟨k.val - 1, by omega⟩ := by
  have hq : (q80 d k).val = 10 * d.val + k.val := rfl
  refine (concatenate_apply_piece (t := S80x4096) 0 _ (by exact concatenates_S1x4096_S79x4096_S80x4096_d0) _ 1 (by exact Nat.succ_lt_succ (Nat.zero_lt_succ _)) S79x4096 _ rfl rfl 1 rfl
    (ix2 (⟨10 * d.val + (k.val - 1), by omega⟩ : Fin 79) t) (fun b hb => ?_)
    (by exact (show 1 + (10 * d.val + (k.val - 1)) = 10 * d.val + k.val by omega))).trans ?_
  · match b with
    | ⟨0, _⟩ => exact absurd rfl hb
    | ⟨1, _⟩ => rfl
  · refine (slice_rows 0 (k0_pay10 (F := Ideal) v0 v4 v7 v10) slices_S80x4096_o0_0_S79x4096 _ t (q80 d ⟨k.val - 1, by omega⟩)
      (Nat.zero_add _).symm).trans ?_
    exact k_s t W d ⟨k.val - 1, by omega⟩ (show k.val - 1 < 9 by omega)

variable {v22 : FVec Ideal S80x80 .f32} {v24 : FVec Ideal S8x80 .f32} {v40 : FVec Ideal S80x8 .f32} {v62 v63 : FVec Ideal S16x80 .f32}
  {v27 : FVec Ideal S80x1 .f32}

/-- Rows of one coordinate summed. -/
theorem rows_sum (T : Tables v22 v24 v40 v62 v63 v27) (f : FVec Ideal S80x4096 .f32) (d : Fin 8) :
    matmul dot_S8x80_S80x4096_S8x4096_1_0_0_1_n_n none v24 f (constant S8x4096 .f32 0x00000000#32) (ix2 d t)
      = ∑ k : Fin 10, f (ix2 (q80 d k) t) := by
  refine (mm_8x80 _ _ d t).trans ?_
  rw [masked (fun q => v24 (ix2 d q)) (fun q => f (ix2 q t)) d (fun _ => 1) (fun d' k => T.rept d d' k)]
  simp only [one_mul]

theorem cum_sum (E : Fin 10 → ℝ) (k : ℕ) :
    ∑ j : Fin 10, (if j.val < k then (1 : EReal) else 0) * (E j : EReal) = (cum E k : EReal) := by
  unfold cum
  rw [coe_sum]
  refine Finset.sum_congr rfl fun j _ => ?_
  split_ifs
  · rw [one_mul]
  · rw [zero_mul]; rfl

theorem tot_sum (E : Fin 10 → ℝ) : ∑ j : Fin 10, (E j : EReal) = (tot E : EReal) := (coe_sum _ _).symm

/-- The widths before bin `k`, summed. -/
theorem k_cum (W : Wcat v10 ww wh wd) (T : Tables v22 v24 v40 v62 v63 v27) (d : Fin 8) (k : Fin 10) :
    k0_pay11 (F := Ideal) v0 v4 v7 v10 v22 (ix2 (q80 d k) t) = (cum (wt (hLane v0 v4 v7 t) ww d) k.val : EReal) := by
  refine (mm_80x80 _ _ (q80 d k) t).trans ?_
  rw [masked (fun q => v22 (ix2 (q80 d k) q)) (fun q => k0_pay8 (F := Ideal) v0 v4 v7 v10 (ix2 q t)) d _ (fun d' k' => T.exc d k d' k'), ← cum_sum]
  exact Finset.sum_congr rfl fun j _ => congrArg (_ * ·) (k_E t W d j)

/-- The sum of the widths. -/
theorem k_tot (W : Wcat v10 ww wh wd) (T : Tables v22 v24 v40 v62 v63 v27) (d : Fin 8) :
    k0_pay12 (F := Ideal) v0 v4 v7 v10 v24 (ix2 d t) = (tot (wt (hLane v0 v4 v7 t) ww d) : EReal) := by
  refine (rows_sum t T _ d).trans ?_
  rw [← tot_sum]
  exact Finset.sum_congr rfl fun j _ => k_E t W d j

/-- The sum of the heights. -/
theorem k_totH (W : Wcat v10 ww wh wd) (T : Tables v22 v24 v40 v62 v63 v27) (d : Fin 8) :
    k0_pay13 (F := Ideal) v0 v4 v7 v10 v24 (ix2 d t) = (tot (wt (hLane v0 v4 v7 t) wh d) : EReal) := by
  refine (rows_sum t T _ d).trans ?_
  rw [← tot_sum]
  exact Finset.sum_congr rfl fun j _ => k_H t W d j

/-- The clipped point. -/
theorem k_clip (d : Fin 8) : k0_pay16 (F := Ideal) v0 (ix2 d t) = (clipR (v0 (ix2 (hi d) t)) : EReal) := by
  rw [← clip_coe, ← k_u (v0 := v0) t d, ← lit_three, ← lit_neg_three]
  rfl

end Cert.Spline

end

end
-- ==== Proof.Spline.KBin.lean ====
/-
  The bin that holds the point, in one lane of a block: the table of which left edges are at most the point, the one-hot row of the bin,
  and what the sums against it pick.
-/
module

public import proofs.«01_k».proof.Proof.Spline.KLanes

@[expose] public section

noncomputable section

namespace Cert.Spline

open Idealize.ShloMosaic hiding ix1 ix2 ix3 ix4 eq_ix1 eq_ix2 eq_ix3
open Idealize.ShloMosaic.ValueIdx Cert.KernelIdeal Cert.KernelIdeal.Gen
open scoped BigOperators

/-- The named sixth. -/
theorem named_sixth : Named.named (F := Ideal) Cert.KernelIdeal.κ (φ := .f32) "sixth" 0x3E2AAAAB#32 = ((6⁻¹ : ℝ) : EReal) :=
  IdealRules.named_const.ideal_named_scalar _ _ _ _ rfl

/-- What the steps of one lane read: the running sums, the sums, and the point. -/
structure Lane (v23 : FVec Ideal S80x4096 .f32) (v25 v34 : FVec Ideal S8x4096 .f32) (v28 : FVec Ideal S1x4096 .f32) (t : Fin 4096)
    (E : Fin 8 → Fin 10 → ℝ) (r : Fin 8 → ℝ) : Prop where
  pos : ∀ d k, 0 < E d k
  ge : ∀ d, -3 ≤ r d
  cums : ∀ (d : Fin 8) (k : Fin 10), v23 (ix2 (q80 d k) t) = (cum (E d) k.val : EReal)
  tots : ∀ d : Fin 8, v25 (ix2 d t) = (tot (E d) : EReal)
  pts : ∀ d : Fin 8, v34 (ix2 d t) = (r d : EReal)
  zero : v28 (ix2 (0 : Fin 1) t) = 0

variable {v23 : FVec Ideal S80x4096 .f32} {v25 v34 : FVec Ideal S8x4096 .f32} {v28 : FVec Ideal S1x4096 .f32} {t : Fin 4096}
  {E : Fin 8 → Fin 10 → ℝ} {r : Fin 8 → ℝ}
  {v22 : FVec Ideal S80x80 .f32} {v24 : FVec Ideal S8x80 .f32} {v40 : FVec Ideal S80x8 .f32} {v62 v63 : FVec Ideal S16x80 .f32}
  {v27 : FVec Ideal S80x1 .f32}

/-- The point on the scale of the unnormalised widths. -/
theorem k_scaled (L : Lane v23 v25 v34 v28 t E r) (d : Fin 8) :
    k0_pay17 (F := Ideal) v25 v34 (ix2 d t) = (((r d + 3) * (tot (E d) * 6⁻¹) : ℝ) : EReal) := by
  show (v34 (ix2 d t) + Ideal.ofBits .f32 0x40400000#32) * (v25 (ix2 d t) * Named.named (F := Ideal) Cert.KernelIdeal.κ (φ := .f32) "sixth" 0x3E2AAAAB#32) = _
  rw [L.pts, L.tots, lit_three, named_sixth, ← EReal.coe_mul, ← EReal.coe_add, ← EReal.coe_mul]

/-- Which left edges are at most the point: the ones up to the bin that holds it. -/
theorem k_le (L : Lane v23 v25 v34 v28 t E r) (T : Tables v22 v24 v40 v62 v63 v27) (d : Fin 8) (k : Fin 10) :
    k0_pay18 (F := Ideal) v23 v25 v34 v40 (ix2 (q80 d k) t) = if k ≤ bin (E d) (r d) then 1#1 else 0#1 := by
  have h : matmul dot_S80x8_S8x4096_S80x4096_1_0_0_1_n_n none v40 (k0_pay17 (F := Ideal) v25 v34) (constant S80x4096 .f32 0x00000000#32)
      (ix2 (q80 d k) t) = (((r d + 3) * (tot (E d) * 6⁻¹) : ℝ) : EReal) := by
    refine (mm_80x8 _ _ (q80 d k) t).trans ?_
    rw [Finset.sum_eq_single d]
    · rw [T.rep, if_pos rfl, one_mul, k_scaled L]
    · intro d' _ hd
      rw [T.rep, if_neg hd, zero_mul]
    · exact fun h => absurd (Finset.mem_univ _) h
  refine (congrArg₂ (Ideal.cmp .oge) h (L.cums d k)).trans ?_
  rw [cmp_oge]
  refine if_congr ?_ rfl rfl
  rw [EReal.coe_le_coe_iff, cum_le_iff _ (L.pos d), bin_spec _ (L.pos d) _ (L.ge d)]

/-- The same as a number. -/
theorem k_leE (L : Lane v23 v25 v34 v28 t E r) (T : Tables v22 v24 v40 v62 v63 v27) (d : Fin 8) (k : Fin 10) :
    sitofp (F := Ideal) .f32 (extui 32 (k0_pay18 (F := Ideal) v23 v25 v34 v40) natLt_1_32) (ix2 (q80 d k) t)
      = if k ≤ bin (E d) (r d) then (1 : EReal) else 0 := by
  show (((BitVec.setWidth 32 (k0_pay18 (F := Ideal) v23 v25 v34 v40 (ix2 (q80 d k) t))).toInt : ℝ) : EReal) = _
  rw [k_le L T]
  split_ifs <;> simp

/-- The one-hot row of the bin. -/
theorem k_hot (L : Lane v23 v25 v34 v28 t E r) (T : Tables v22 v24 v40 v62 v63 v27) (d : Fin 8) (k : Fin 10) :
    k0_pay19 (F := Ideal) v23 v25 v27 v28 v34 v40 (ix2 (q80 d k) t) = if k = bin (E d) (r d) then (1 : EReal) else 0 := by
  have hq : (q80 d k).val = 10 * d.val + k.val := rfl
  have hb := (bin (E d) (r d)).isLt
  have hm : broadcastTo S80x4096 (subf (broadcast S80x1 (Scalar.ofBits (F := Ideal) .f32 0x3F800000#32)) v27) broadcasts_S80x1_S80x4096
      (ix2 (q80 d k) t) = if k.val = 9 then 0 else 1 := by
    refine (broadcastTo_apply _ broadcasts_S80x1_S80x4096 (ix2 (q80 d k) t) (ix2 (q80 d k) (0 : Fin 1)) (fun a => ?_)).trans ?_
    · match a with
      | ⟨0, _⟩ => rfl
      | ⟨1, _⟩ => rfl
    · show Ideal.ofBits .f32 0x3F800000#32 - v27 (ix2 (q80 d k) (0 : Fin 1)) = _
      rw [T.m9, lit_one]
      split_ifs
      · rw [EReal.coe_one, ← EReal.coe_one, ← EReal.coe_sub, sub_self]; rfl
      · rw [sub_zero]; rfl
  show sitofp (F := Ideal) .f32 (extui 32 (k0_pay18 (F := Ideal) v23 v25 v34 v40) natLt_1_32) (ix2 (q80 d k) t)
    - concatenate S80x4096 0 [⟨S79x4096, extractStridedSlice S79x4096 ![1, 0] (sitofp (F := Ideal) .f32 (extui 32 (k0_pay18 (F := Ideal) v23 v25 v34 v40) natLt_1_32))
        slices_S80x4096_o1_0_S79x4096⟩, ⟨S1x4096, v28⟩] concatenates_S79x4096_S1x4096_S80x4096_d0 (ix2 (q80 d k) t)
      * broadcastTo S80x4096 (subf (broadcast S80x1 (Scalar.ofBits (F := Ideal) .f32 0x3F800000#32)) v27) broadcasts_S80x1_S80x4096 (ix2 (q80 d k) t) = _
  rw [hm, k_leE L T]
  by_cases h9 : k.val = 9
  · rw [if_pos h9, mul_zero, sub_zero]
    refine if_congr ?_ rfl rfl
    rw [Fin.le_def, Fin.ext_iff]
    omega
  · rw [if_neg h9, mul_one]
    have hk := k.isLt
    have hc : concatenate S80x4096 0 [⟨S79x4096, extractStridedSlice S79x4096 ![1, 0] (sitofp (F := Ideal) .f32 (extui 32 (k0_pay18 (F := Ideal) v23 v25 v34 v40) natLt_1_32))
        slices_S80x4096_o1_0_S79x4096⟩, ⟨S1x4096, v28⟩] concatenates_S79x4096_S1x4096_S80x4096_d0 (ix2 (q80 d k) t)
        = if k.val + 1 ≤ (bin (E d) (r d)).val then (1 : EReal) else 0 := by
      refine (concatenate_apply_piece (t := S80x4096) 0 _ (by exact concatenates_S79x4096_S1x4096_S80x4096_d0) _ 0 (by exact Nat.zero_lt_succ _) S79x4096 _ rfl rfl 0 rfl
        (ix2 (⟨10 * d.val + k.val, by omega⟩ : Fin 79) t) (fun b hb => ?_) (by exact Nat.zero_add _)).trans ?_
      · match b with
        | ⟨0, _⟩ => exact absurd rfl hb
        | ⟨1, _⟩ => rfl
      · refine (slice_rows 1 _ slices_S80x4096_o1_0_S79x4096 (⟨10 * d.val + k.val, by omega⟩ : Fin 79) t (q80 d ⟨k.val + 1, by omega⟩)
          (show 10 * d.val + (k.val + 1) = 1 + (10 * d.val + k.val) by omega)).trans ?_
        exact k_leE L T d ⟨k.val + 1, by omega⟩
    rw [hc]
    by_cases h1 : k.val + 1 ≤ (bin (E d) (r d)).val
    · rw [if_pos h1, if_pos (Fin.le_def.2 (by omega)), if_neg (fun e => by rw [Fin.ext_iff] at e; omega), ← EReal.coe_one, ← EReal.coe_sub, sub_self]
      rfl
    · rw [if_neg h1, sub_zero]
      refine if_congr ?_ rfl rfl
      rw [Fin.le_def, Fin.ext_iff]
      omega

/-- The one-hot row against any rows picks the bin's row. -/
theorem k_pick (L : Lane v23 v25 v34 v28 t E r) (T : Tables v22 v24 v40 v62 v63 v27) (f : FVec Ideal S80x4096 .f32) (d : Fin 8) :
    matmul dot_S8x80_S80x4096_S8x4096_1_0_0_1_n_n none v24 (mulf (k0_pay19 (F := Ideal) v23 v25 v27 v28 v34 v40) f)
      (constant S8x4096 .f32 0x00000000#32) (ix2 d t) = f (ix2 (q80 d (bin (E d) (r d))) t) := by
  refine (rows_sum t T _ d).trans ?_
  rw [← pick (bin (E d) (r d)) (fun k => f (ix2 (q80 d k) t))]
  exact Finset.sum_congr rfl fun k _ => congrArg (· * _) (k_hot L T d k)

/-- The bins up to the point's, summed. -/
theorem k_upto (L : Lane v23 v25 v34 v28 t E r) (T : Tables v22 v24 v40 v62 v63 v27) (f : FVec Ideal S80x4096 .f32) (G : Fin 8 → Fin 10 → ℝ)
    (hf : ∀ d k, f (ix2 (q80 d k) t) = (G d k : EReal)) (d : Fin 8) :
    matmul dot_S8x80_S80x4096_S8x4096_1_0_0_1_n_n none v24
      (select (k0_pay18 (F := Ideal) v23 v25 v34 v40) f (broadcast S80x4096 (Scalar.ofBits (F := Ideal) .f32 0x00000000#32)))
      (constant S8x4096 .f32 0x00000000#32) (ix2 d t) = (cum (G d) ((bin (E d) (r d)).val + 1) : EReal) := by
  refine (rows_sum t T _ d).trans ?_
  unfold cum
  rw [coe_sum]
  refine Finset.sum_congr rfl fun k _ => ?_
  show Scalar.select (k0_pay18 (F := Ideal) v23 v25 v34 v40 (ix2 (q80 d k) t)) (f (ix2 (q80 d k) t)) (Ideal.ofBits .f32 0x00000000#32) = _
  rw [k_le L T, hf, lit_zero]
  by_cases h : k ≤ bin (E d) (r d)
  · rw [if_pos h, if_pos (Nat.lt_succ_of_le (Fin.le_def.1 h))]
    rfl
  · rw [if_neg h, if_neg (fun h' => h (Fin.le_def.2 (Nat.le_of_lt_succ h')))]
    rfl

/-- A table row of one coordinate against the one-hot row: the table's entry at the bin. -/
theorem hot_sum (L : Lane v23 v25 v34 v28 t E r) (T : Tables v22 v24 v40 v62 v63 v27) (w : Fin 80 → EReal) (d : Fin 8) (c : Fin 10 → EReal)
    (hw : ∀ d' k, w (q80 d' k) = if d' = d then c k else 0) :
    ∑ q, w q * k0_pay19 (F := Ideal) v23 v25 v27 v28 v34 v40 (ix2 q t) = c (bin (E d) (r d)) := by
  rw [masked w (fun q => k0_pay19 (F := Ideal) v23 v25 v27 v28 v34 v40 (ix2 q t)) d c hw, ← pick (bin (E d) (r d)) c]
  exact Finset.sum_congr rfl fun k _ => by rw [k_hot L T, mul_comm]

/-- The same with rows multiplied in. -/
theorem hot_mul_sum (L : Lane v23 v25 v34 v28 t E r) (T : Tables v22 v24 v40 v62 v63 v27) (f : FVec Ideal S80x4096 .f32) (w : Fin 80 → EReal) (d : Fin 8)
    (c : Fin 10 → EReal) (hw : ∀ d' k, w (q80 d' k) = if d' = d then c k else 0) :
    ∑ q, w q * mulf (k0_pay19 (F := Ideal) v23 v25 v27 v28 v34 v40) f (ix2 q t)
      = c (bin (E d) (r d)) * f (ix2 (q80 d (bin (E d) (r d))) t) := by
  rw [masked w (fun q => mulf (k0_pay19 (F := Ideal) v23 v25 v27 v28 v34 v40) f (ix2 q t)) d c hw,
    ← pick (bin (E d) (r d)) (fun k => c k * f (ix2 (q80 d k) t))]
  refine Finset.sum_congr rfl fun k _ => ?_
  show c k * (k0_pay19 (F := Ideal) v23 v25 v27 v28 v34 v40 (ix2 (q80 d k) t) * f (ix2 (q80 d k) t)) = _
  rw [k_hot L T, mul_left_comm]

/-- The slope at the bin's left edge. -/
theorem k_left (L : Lane v23 v25 v34 v28 t E r) (T : Tables v22 v24 v40 v62 v63 v27) (v30 : FVec Ideal S80x4096 .f32) (s : Fin 8 → Fin 9 → EReal)
    (hs : ∀ (d : Fin 8) (k : Fin 10) (_ : k.val ≠ 0), v30 (ix2 (q80 d k) t) = s d ⟨k.val - 1, by omega⟩) (d : Fin 8) :
    k0_pay24 (F := Ideal) v23 v25 v27 v28 v30 v34 v40 v62 v63 (ix2 d t) = left (s d) (bin (E d) (r d)) := by
  have h1 : matmul dot_S8x80_S80x4096_S8x4096_1_0_0_1_n_n none (extractStridedSlice S8x80 ![0, 0] v62 slices_S16x80_o0_0_S8x80)
      (mulf (k0_pay19 (F := Ideal) v23 v25 v27 v28 v34 v40) v30) (constant S8x4096 .f32 0x00000000#32) (ix2 d t)
      = (if (bin (E d) (r d)).val = 0 then 0 else 1) * v30 (ix2 (q80 d (bin (E d) (r d))) t) := by
    refine (mm_8x80 _ _ d t).trans ?_
    exact hot_mul_sum L T v30 (fun q => extractStridedSlice S8x80 ![0, 0] v62 slices_S16x80_o0_0_S8x80 (ix2 d q)) d (fun k => if k.val = 0 then 0 else 1)
      fun d' k => (slice_rows 0 v62 slices_S16x80_o0_0_S8x80 d (q80 d' k) (lo d) (Nat.zero_add _).symm).trans (T.rdl d d' k)
  have h2 : extractStridedSlice S8x4096 ![0, 0] (k0_pay23 (F := Ideal) v23 v25 v27 v28 v34 v40 v63) slices_S16x4096_o0_0_S8x4096 (ix2 d t)
      = (if (bin (E d) (r d)).val = 0 then 1 else 0) := by
    refine (slice_rows 0 _ slices_S16x4096_o0_0_S8x4096 d t (lo d) (Nat.zero_add _).symm).trans ?_
    refine (mm_16x80 _ _ (lo d) t).trans ?_
    exact hot_sum L T (fun q => v63 (ix2 (lo d) q)) d (fun k => if k.val = 0 then 1 else 0) fun d' k => T.rbl d d' k
  refine (congrArg₂ (· + ·) h1 h2).trans ?_
  unfold left
  by_cases h : (bin (E d) (r d)).val = 0
  · rw [if_pos h, if_pos h, dif_pos h, zero_mul, zero_add]
  · rw [if_neg h, if_neg h, dif_neg h, one_mul, add_zero, hs d _ h]

/-- The slope at the bin's right edge. -/
theorem k_right (L : Lane v23 v25 v34 v28 t E r) (T : Tables v22 v24 v40 v62 v63 v27) (v21 : FVec Ideal S80x4096 .f32) (s : Fin 8 → Fin 9 → EReal)
    (hs : ∀ (d : Fin 8) (k : Fin 10) (h : k.val < 9), v21 (ix2 (q80 d k) t) = s d ⟨k.val, h⟩) (d : Fin 8) :
    k0_pay25 (F := Ideal) v21 v23 v25 v27 v28 v34 v40 v62 v63 (ix2 d t) = right (s d) (bin (E d) (r d)) := by
  have h1 : matmul dot_S8x80_S80x4096_S8x4096_1_0_0_1_n_n none (extractStridedSlice S8x80 ![8, 0] v62 slices_S16x80_o8_0_S8x80)
      (mulf (k0_pay19 (F := Ideal) v23 v25 v27 v28 v34 v40) v21) (constant S8x4096 .f32 0x00000000#32) (ix2 d t)
      = (if (bin (E d) (r d)).val = 9 then 0 else 1) * v21 (ix2 (q80 d (bin (E d) (r d))) t) := by
    refine (mm_8x80 _ _ d t).trans ?_
    exact hot_mul_sum L T v21 (fun q => extractStridedSlice S8x80 ![8, 0] v62 slices_S16x80_o8_0_S8x80 (ix2 d q)) d (fun k => if k.val = 9 then 0 else 1)
      fun d' k => (slice_rows 8 v62 slices_S16x80_o8_0_S8x80 d (q80 d' k) (hi d) rfl).trans (T.rdh d d' k)
  have h2 : extractStridedSlice S8x4096 ![8, 0] (k0_pay23 (F := Ideal) v23 v25 v27 v28 v34 v40 v63) slices_S16x4096_o8_0_S8x4096 (ix2 d t)
      = (if (bin (E d) (r d)).val = 9 then 1 else 0) := by
    refine (slice_rows 8 _ slices_S16x4096_o8_0_S8x4096 d t (hi d) rfl).trans ?_
    refine (mm_16x80 _ _ (hi d) t).trans ?_
    exact hot_sum L T (fun q => v63 (ix2 (hi d) q)) d (fun k => if k.val = 9 then 1 else 0) fun d' k => T.rbh d d' k
  refine (congrArg₂ (· + ·) h1 h2).trans ?_
  unfold right
  have hb := (bin (E d) (r d)).isLt
  by_cases h : (bin (E d) (r d)).val = 9
  · rw [if_pos h, if_pos h, dif_neg (by omega), zero_mul, zero_add]
  · rw [if_neg h, if_neg h, dif_pos (by omega), one_mul, add_zero, hs d _ (by omega)]

end Cert.Spline

end

end
-- ==== Proof.Spline.KFinal.lean ====
/-
  The rational function and its log-derivative in one lane of a block, from what was picked for the bin.
-/
module

public import proofs.«01_k».proof.Proof.Spline.KBin

@[expose] public section

noncomputable section

namespace Cert.Spline

open Idealize.ShloMosaic hiding ix1 ix2 ix3 ix4 eq_ix1 eq_ix2 eq_ix3
open Idealize.ShloMosaic.ValueIdx Cert.KernelIdeal Cert.KernelIdeal.Gen
open scoped BigOperators

/-- A quotient of real numbers by one that is not zero. -/
theorem div_reals (a b : ℝ) (hb : b ≠ 0) : Ideal.div (a : EReal) (b : EReal) = ((a * (1 / b) : ℝ) : EReal) := by
  rw [Ideal.div_coe hb, ← EReal.coe_mul]

/-- What the rational function reads at one position. -/
structure Vals (v25 v26 v39 v56 v59 v61 v69 v74 v75 : FVec Ideal S8x4096 .f32) (i : S8x4096.Idx) (E H : Fin 10 → ℝ) (r : ℝ)
    (dk dk1 : EReal) : Prop where
  posE : ∀ k, 0 < E k
  posH : ∀ k, 0 < H k
  big : ∀ k, (2 : ℝ) ^ (-116 : ℤ) ≤ E k
  totE : v25 i = (tot E : EReal)
  totH : v26 i = (tot H : EReal)
  pt : v39 i = (((r + 3) * (tot E * 6⁻¹) : ℝ) : EReal)
  w : v56 i = (E (bin E r) : EReal)
  up : v59 i = (cum H ((bin E r).val + 1) : EReal)
  ht : v61 i = (H (bin E r) : EReal)
  lt : v69 i = dk
  rt : v74 i = dk1
  lo : v75 i = (cum E (bin E r).val : EReal)

variable {v25 v26 v39 v56 v59 v61 v69 v74 v75 : FVec Ideal S8x4096 .f32} {i : S8x4096.Idx} {E H : Fin 10 → ℝ} {r : ℝ} {dk dk1 : EReal}

/-- The guard does nothing: the width is above its literal. -/
theorem k_recip (V : Vals v25 v26 v39 v56 v59 v61 v69 v74 v75 i E H r dk dk1) :
    k0_pay27 (F := Ideal) v56 i = ((1 / E (bin E r) : ℝ) : EReal) := by
  show Ideal.div (Ideal.ofBits .f32 0x3F800000#32) (max (v56 i) (Ideal.ofBits .f32 0x0554AD2E#32)) = _
  obtain ⟨e, he, hl⟩ := lit_tiny
  rw [V.w, he, ← coe_max, max_eq_left (hl.trans (V.big _)), lit_one, div_reals _ _ (V.posE _).ne', one_mul]

/-- The relative position in the bin. -/
theorem k_pos (V : Vals v25 v26 v39 v56 v59 v61 v69 v74 v75 i E H r dk dk1) : k0_pay28 (F := Ideal) v39 v56 v75 i = (pos E r : EReal) := by
  show (v39 i - v75 i) * k0_pay27 (F := Ideal) v56 i = _
  rw [k_recip V, V.pt, V.lo, ← EReal.coe_sub, ← EReal.coe_mul, pos_eq _ V.posE]

/-- The mean slope of the bin. -/
theorem k_mean (V : Vals v25 v26 v39 v56 v59 v61 v69 v74 v75 i E H r dk dk1) : k0_pay29 (F := Ideal) v25 v26 v56 v61 i = (mean E H r : EReal) := by
  show (v61 i * k0_pay27 (F := Ideal) v56 i) * Ideal.div (v25 i) (v26 i) = _
  rw [k_recip V, V.ht, V.totE, V.totH, div_reals _ _ (tot_pos _ V.posH).ne', ← EReal.coe_mul, ← EReal.coe_mul, ← mean_eq E H V.posE V.posH r, mul_one_div (tot E) (tot H)]

/-- One less the relative position. -/
theorem k_om (V : Vals v25 v26 v39 v56 v59 v61 v69 v74 v75 i E H r dk dk1) : k0_pay30 (F := Ideal) v39 v56 v75 i = 1 - (pos E r : EReal) := by
  show Ideal.ofBits .f32 0x3F800000#32 - k0_pay28 (F := Ideal) v39 v56 v75 i = _
  rw [k_pos V, lit_one, EReal.coe_one]

/-- The square of the relative position. -/
theorem k_sq (V : Vals v25 v26 v39 v56 v59 v61 v69 v74 v75 i E H r dk dk1) : k0_pay31 (F := Ideal) v39 v56 v75 i = (pos E r : EReal) * (pos E r : EReal) := by
  show k0_pay28 (F := Ideal) v39 v56 v75 i * k0_pay28 (F := Ideal) v39 v56 v75 i = _
  rw [k_pos V]

/-- The relative position times one less it. -/
theorem k_xo (V : Vals v25 v26 v39 v56 v59 v61 v69 v74 v75 i E H r dk dk1) : k0_pay32 (F := Ideal) v39 v56 v75 i = (pos E r : EReal) * (1 - (pos E r : EReal)) := by
  show k0_pay28 (F := Ideal) v39 v56 v75 i * k0_pay30 (F := Ideal) v39 v56 v75 i = _
  rw [k_pos V, k_om V]

/-- The denominator. -/
theorem k_denom (V : Vals v25 v26 v39 v56 v59 v61 v69 v74 v75 i E H r dk dk1) :
    k0_pay33 (F := Ideal) v25 v26 v39 v56 v61 v69 v74 v75 i = denom (mean E H r) (pos E r) dk dk1 := by
  show k0_pay29 (F := Ideal) v25 v26 v56 v61 i
    + ((v74 i + v69 i) - Ideal.ofBits .f32 0x40000000#32 * k0_pay29 (F := Ideal) v25 v26 v56 v61 i) * k0_pay32 (F := Ideal) v39 v56 v75 i = _
  rw [k_mean V, k_xo V, V.lt, V.rt, lit_two]
  unfold denom
  rw [mul_assoc _ (pos E r : EReal)]

/-- The bin's lower height, from the sum of the heights up to it. -/
theorem low_height (hH : ∀ k, 0 < H k) (b : Fin 10) : 6 * ((cum H (b.val + 1) - H b) * (1 / tot H)) - 3 = knot H b.val := by
  have := tot_pos H hH
  unfold knot
  rw [cum_succ]
  field_simp
  ring

/-- The transformed point. -/
theorem k_inner (V : Vals v25 v26 v39 v56 v59 v61 v69 v74 v75 i E H r dk dk1) :
    k0_pay34 (F := Ideal) v25 v26 v39 v56 v59 v61 v69 v74 v75 i
      = inner (knot H (bin E r).val) (width H (bin E r)) (mean E H r) (pos E r) dk dk1 := by
  show (Ideal.ofBits .f32 0x40C00000#32 * ((v59 i - v61 i) * Ideal.div (Ideal.ofBits .f32 0x3F800000#32) (v26 i)) - Ideal.ofBits .f32 0x40400000#32)
    + Ideal.div ((Ideal.ofBits .f32 0x40C00000#32 * (v61 i * Ideal.div (Ideal.ofBits .f32 0x3F800000#32) (v26 i)))
      * (k0_pay29 (F := Ideal) v25 v26 v56 v61 i * k0_pay31 (F := Ideal) v39 v56 v75 i + v69 i * k0_pay32 (F := Ideal) v39 v56 v75 i))
      (k0_pay33 (F := Ideal) v25 v26 v39 v56 v61 v69 v74 v75 i) = _
  rw [k_mean V, k_sq V, k_xo V, k_denom V, V.lt, V.ht, V.up, V.totH, lit_one, lit_six, lit_three, div_reals _ _ (tot_pos _ V.posH).ne', one_mul,
    ← EReal.coe_sub, ← EReal.coe_mul, ← EReal.coe_mul, ← EReal.coe_mul, ← EReal.coe_mul, ← EReal.coe_sub, low_height V.posH]
  have hw : 6 * (H (bin E r) * (1 / tot H)) = width H (bin E r) := by unfold width; ring
  rw [hw]
  unfold inner
  rw [← mul_assoc _ (pos E r : EReal) (pos E r : EReal), ← mul_assoc dk]

/-- The log-derivative. -/
theorem k_logd (V : Vals v25 v26 v39 v56 v59 v61 v69 v74 v75 i E H r dk dk1) :
    k0_pay35 (F := Ideal) v25 v26 v39 v56 v61 v69 v74 v75 i
      - ((2 : ℝ) : EReal) * k0_pay36 (F := Ideal) v25 v26 v39 v56 v61 v69 v74 v75 i = logd (mean E H r) (pos E r) dk dk1 := by
  show (Ideal.ofBits .f32 0x40000000#32 * Ideal.log (k0_pay29 (F := Ideal) v25 v26 v56 v61 i)
      + Ideal.log ((v74 i * k0_pay31 (F := Ideal) v39 v56 v75 i
        + (Ideal.ofBits .f32 0x40000000#32 * k0_pay29 (F := Ideal) v25 v26 v56 v61 i) * k0_pay32 (F := Ideal) v39 v56 v75 i)
        + (v69 i * k0_pay30 (F := Ideal) v39 v56 v75 i) * k0_pay30 (F := Ideal) v39 v56 v75 i))
    - ((2 : ℝ) : EReal) * Ideal.log (k0_pay33 (F := Ideal) v25 v26 v39 v56 v61 v69 v74 v75 i) = _
  rw [k_mean V, k_sq V, k_xo V, k_om V, k_denom V, V.lt, V.rt, lit_two]
  unfold logd
  rw [← mul_assoc dk1, ← mul_assoc _ (pos E r : EReal) (1 - (pos E r : EReal))]

end Cert.Spline

end

end
-- ==== Proof.Spline.KBlock.lean ====
/-
  What one run of the kernel's body leaves in its two output blocks, from its input blocks.
-/
module

public import proofs.«01_k».proof.Proof.Spline.KFinal
public import proofs.«01_k».proof.Proof.Gen.KernelIdeal.Frame
public import Idealize.ShloMosaic.Lib.Pipeline.Value

@[expose] public section

noncomputable section

namespace Cert.Spline

open Idealize.ShloMosaic hiding ix1 ix2 ix3 ix4 eq_ix1 eq_ix2 eq_ix3
open Idealize.ShloMosaic.ValueIdx Cert.KernelIdeal Cert.KernelIdeal.Gen
open scoped BigOperators

/-- The transformed coordinate `d` in lane `t` of a block. -/
def zLane (x0 : FVec Ideal S16x4096 .f32) (x1 : FVec Ideal S8x50 .f32) (x2 : FVec Ideal S50x50 .f32) (ww wh : Fin 50 → Fin 80 → EReal)
    (wd : Fin 50 → Fin 72 → EReal) (d : Fin 8) (t : Fin 4096) : EReal :=
  zOf (x0 (ix2 (hi d) t)) (wt (hLane x0 x1 x2 t) ww d) (wt (hLane x0 x1 x2 t) wh d) (slope (hLane x0 x1 x2 t) wd d)

/-- The log-derivative of coordinate `d` in lane `t` of a block. -/
def ldLane (x0 : FVec Ideal S16x4096 .f32) (x1 : FVec Ideal S8x50 .f32) (x2 : FVec Ideal S50x50 .f32) (ww wh : Fin 50 → Fin 80 → EReal)
    (wd : Fin 50 → Fin 72 → EReal) (d : Fin 8) (t : Fin 4096) : EReal :=
  ldOf (x0 (ix2 (hi d) t)) (wt (hLane x0 x1 x2 t) ww d) (wt (hLane x0 x1 x2 t) wh d) (slope (hLane x0 x1 x2 t) wd d)

/-- The conjunction of two conditions, as one-bit words. -/
theorem and_words (p q : Prop) [Decidable p] [Decidable q] :
    IntOp.andi (if p then 1#1 else 0#1) (if q then 1#1 else 0#1) = if p ∧ q then 1#1 else 0#1 := by
  by_cases h1 : p <;> by_cases h2 : q <;> simp [h1, h2] <;> decide

/-- Whether a point is inside the interval, as the kernel computes it. -/
theorem k_inside (v3 : FVec Ideal S8x4096 .f32) (i : S8x4096.Idx) :
    k0_pay1 (F := Ideal) v3 i = if ((-3 : ℝ) : EReal) < v3 i ∧ v3 i < ((3 : ℝ) : EReal) then 1#1 else 0#1 := by
  show IntOp.andi (Ideal.cmp .ogt (v3 i) (Ideal.ofBits .f32 0xC0400000#32)) (Ideal.cmp .olt (v3 i) (Ideal.ofBits .f32 0x40400000#32)) = _
  rw [cmp_ogt, cmp_olt, lit_three, lit_neg_three]
  exact and_words _ _

/-- The block's sum: over the lanes and the coordinates, what is inside the interval. -/
theorem k_sum (v3 v124 v125 : FVec Ideal S8x4096 .f32) (i : S1x1x1.Idx) :
    k0_pay4 (F := Ideal) v3 v124 v125 i = ∑ t : Fin 4096, ∑ d : Fin 8,
      (if ((-3 : ℝ) : EReal) < v3 (ix2 d t) ∧ v3 (ix2 d t) < ((3 : ℝ) : EReal)
        then v124 (ix2 d t) - ((2 : ℝ) : EReal) * v125 (ix2 d t) else 0) := by
  have h : ∀ (d : Fin 8) (t : Fin 4096), select (k0_pay1 (F := Ideal) v3) (subf v124 (mulf (broadcast S8x4096 (Scalar.ofBits (F := Ideal) .f32 0x40000000#32)) v125))
      (broadcast S8x4096 (Scalar.ofBits (F := Ideal) .f32 0x00000000#32)) (ix2 d t)
      = (if ((-3 : ℝ) : EReal) < v3 (ix2 d t) ∧ v3 (ix2 d t) < ((3 : ℝ) : EReal)
        then v124 (ix2 d t) - ((2 : ℝ) : EReal) * v125 (ix2 d t) else 0) := by
    intro d t
    show Scalar.select (k0_pay1 (F := Ideal) v3 (ix2 d t)) (v124 (ix2 d t) - Ideal.ofBits .f32 0x40000000#32 * v125 (ix2 d t))
      (Ideal.ofBits .f32 0x00000000#32) = _
    rw [k_inside, lit_two, lit_zero]
    by_cases h1 : ((-3 : ℝ) : EReal) < v3 (ix2 d t) ∧ v3 (ix2 d t) < ((3 : ℝ) : EReal)
    · rw [if_pos h1, if_pos h1]; rfl
    · rw [if_neg h1, if_neg h1]; rfl
  simp only [← h]
  have e : ∀ src : FVec Ideal S8x4096 .f32, shapeCast S1x1x1 (shapeCast S1x1 (multiReduction .add [1] S1
      (shapeCast S1x4096 (multiReduction .add [0] S4096 src 0x00000000#32 reduces_S8x4096_S4096 (.inl rfl) rfl) shapeCasts_S4096_S1x4096)
      0x00000000#32 reduces_S1x4096_S1 (.inl rfl) rfl) shapeCasts_S1_S1x1) shapeCasts_S1x1_S1x1x1 i
      = ∑ t : Fin 4096, ∑ d : Fin 8, src (ix2 d t) := by
    intro src
    rw [Idealize.ShloMosaic.eq_ix3 i]
    simp only [pointwise]
    rfl
  exact e _

theorem zeros2 : (![0, 0] : Fin 2 → Nat) = fun _ => 0 := by
  funext a
  match a with
  | ⟨0, _⟩ => rfl
  | ⟨1, _⟩ => rfl

theorem zeros3 : (![0, 0, 0] : Fin 3 → Nat) = fun _ => 0 := by
  funext a
  match a with
  | ⟨0, _⟩ => rfl
  | ⟨1, _⟩ => rfl
  | ⟨2, _⟩ => rfl

/-- A logit is within six times a bound of its column's absolute sum, the hidden layer being at most one. -/
theorem logit_ge (h : Fin 50 → EReal) (w : Fin 50 → Fin 80 → EReal) (q : Fin 80) (hh : ∀ j, |(h j).toReal| ≤ 1)
    (hb : ∑ j, |(w j q).toReal| ≤ 13) : -78 ≤ logit h w q := by
  unfold logit
  have h1 : |∑ j : Fin 50, (h j).toReal * (w j q).toReal| ≤ ∑ j, |(w j q).toReal| := by
    refine (Finset.abs_sum_le_sum_abs _ _).trans (Finset.sum_le_sum fun j _ => ?_)
    rw [abs_mul]
    exact mul_le_of_le_one_left (abs_nonneg _) (hh j)
  have h2 := (abs_le.1 (h1.trans hb)).1
  linarith

/-- The exponential of minus 78 is above the guard's literal. -/
theorem exp_big (x : ℝ) (hx : -78 ≤ x) : (2 : ℝ) ^ (-116 : ℤ) ≤ Real.exp x := by
  have h1 : Real.exp (-78) ≤ Real.exp x := Real.exp_le_exp.2 hx
  have h2 : Real.exp 78 ≤ (2 : ℝ) ^ (116 : ℕ) := by
    have h3 : Real.exp 78 = Real.exp 1 ^ (78 : ℕ) := by rw [← Real.exp_nat_mul]; norm_num
    have h4 : Real.exp 1 ≤ 2.8 := by
      have h5 : (1 : ℝ) - 1 / 20 ≤ Real.exp (-(1 / 20)) := Real.one_sub_le_exp_neg _
      have h6 : Real.exp (1 / 20) ≤ 20 / 19 := by
        rw [Real.exp_neg] at h5
        have h7 := inv_anti₀ (by norm_num : (0 : ℝ) < 1 - 1 / 20) h5
        rw [inv_inv] at h7
        exact h7.trans (by norm_num)
      have h8 : Real.exp 1 = Real.exp (1 / 20) ^ (20 : ℕ) := by rw [← Real.exp_nat_mul]; norm_num
      rw [h8]
      exact (pow_le_pow_left₀ (Real.exp_pos _).le h6 20).trans (by norm_num)
    rw [h3]
    calc Real.exp 1 ^ (78 : ℕ) ≤ (2.8 : ℝ) ^ (78 : ℕ) := pow_le_pow_left₀ (Real.exp_pos 1).le h4 78
      _ ≤ (2 : ℝ) ^ (116 : ℕ) := by norm_num
  refine le_trans ?_ h1
  rw [Real.exp_neg, zpow_neg]
  exact inv_anti₀ (Real.exp_pos _) (by exact_mod_cast h2)

/-- What a run of the body assumes of its input blocks beside the point: the tables, the joined weights, and the columns' bound. -/
structure Block (x3 : FVec Ideal S50x240 .f32) (x4 : FVec Ideal S80x80 .f32) (x5 : FVec Ideal S80x8 .f32) (x6 : FVec Ideal S8x80 .f32)
    (x7 x8 : FVec Ideal S16x80 .f32) (x9 : FVec Ideal S80x1 .f32) (ww wh : Fin 50 → Fin 80 → EReal) (wd : Fin 50 → Fin 72 → EReal) : Prop where
  T : Tables x4 x6 x5 x7 x8 x9
  W : Wcat x3 ww wh wd
  bound : ∀ q, ∑ j, |(ww j q).toReal| ≤ 13

variable {x0 : FVec Ideal S16x4096 .f32} {x1 : FVec Ideal S8x50 .f32} {x2 : FVec Ideal S50x50 .f32} {x3 : FVec Ideal S50x240 .f32}
  {x4 : FVec Ideal S80x80 .f32} {x5 : FVec Ideal S80x8 .f32} {x6 : FVec Ideal S8x80 .f32} {x7 x8 : FVec Ideal S16x80 .f32}
  {x9 : FVec Ideal S80x1 .f32} {ww wh : Fin 50 → Fin 80 → EReal} {wd : Fin 50 → Fin 72 → EReal}

/-- The values of one lane that the bin's steps read. -/
theorem block_lane (B : Block x3 x4 x5 x6 x7 x8 x9 ww wh wd) (t : Fin 4096) :
    Lane (k0_pay11 (F := Ideal) x0 x1 x2 x3 x4) (k0_pay12 (F := Ideal) x0 x1 x2 x3 x6) (k0_pay16 (F := Ideal) x0) (k0_pay14 (F := Ideal)) t
      (fun d => wt (hLane x0 x1 x2 t) ww d) (fun d => clipR (x0 (ix2 (hi d) t))) where
  pos d k := wt_pos _ _ d k
  ge d := clipR_ge _
  cums d k := k_cum t B.W B.T d k
  tots d := k_tot t B.W B.T d
  pts d := k_clip t d
  zero := lit_zero

/-- The values of one lane that the rational function reads. -/
theorem block_vals (B : Block x3 x4 x5 x6 x7 x8 x9 ww wh wd) (d : Fin 8) (t : Fin 4096) :
    Vals (k0_pay12 (F := Ideal) x0 x1 x2 x3 x6) (k0_pay13 (F := Ideal) x0 x1 x2 x3 x6)
      (k0_pay17 (F := Ideal) (k0_pay12 (F := Ideal) x0 x1 x2 x3 x6) (k0_pay16 (F := Ideal) x0))
      (k0_pay20 (F := Ideal) (k0_pay8 (F := Ideal) x0 x1 x2 x3) (k0_pay11 (F := Ideal) x0 x1 x2 x3 x4) x6 (k0_pay12 (F := Ideal) x0 x1 x2 x3 x6) x9
        (k0_pay14 (F := Ideal)) (k0_pay16 (F := Ideal) x0) x5)
      (k0_pay21 (F := Ideal) (k0_pay9 (F := Ideal) x0 x1 x2 x3) (k0_pay11 (F := Ideal) x0 x1 x2 x3 x4) x6 (k0_pay12 (F := Ideal) x0 x1 x2 x3 x6)
        (k0_pay16 (F := Ideal) x0) x5)
      (k0_pay22 (F := Ideal) (k0_pay9 (F := Ideal) x0 x1 x2 x3) (k0_pay11 (F := Ideal) x0 x1 x2 x3 x4) x6 (k0_pay12 (F := Ideal) x0 x1 x2 x3 x6) x9
        (k0_pay14 (F := Ideal)) (k0_pay16 (F := Ideal) x0) x5)
      (k0_pay24 (F := Ideal) (k0_pay11 (F := Ideal) x0 x1 x2 x3 x4) (k0_pay12 (F := Ideal) x0 x1 x2 x3 x6) x9 (k0_pay14 (F := Ideal))
        (k0_pay15 (F := Ideal) x0 x1 x2 x3) (k0_pay16 (F := Ideal) x0) x5 x7 x8)
      (k0_pay25 (F := Ideal) (k0_pay10 (F := Ideal) x0 x1 x2 x3) (k0_pay11 (F := Ideal) x0 x1 x2 x3 x4) (k0_pay12 (F := Ideal) x0 x1 x2 x3 x6) x9
        (k0_pay14 (F := Ideal)) (k0_pay16 (F := Ideal) x0) x5 x7 x8)
      (k0_pay26 (F := Ideal) (k0_pay8 (F := Ideal) x0 x1 x2 x3) (k0_pay11 (F := Ideal) x0 x1 x2 x3 x4) x6 (k0_pay12 (F := Ideal) x0 x1 x2 x3 x6) x9
        (k0_pay14 (F := Ideal)) (k0_pay16 (F := Ideal) x0) x5)
      (ix2 d t) (wt (hLane x0 x1 x2 t) ww d) (wt (hLane x0 x1 x2 t) wh d) (clipR (x0 (ix2 (hi d) t)))
      (left (slope (hLane x0 x1 x2 t) wd d) (bin (wt (hLane x0 x1 x2 t) ww d) (clipR (x0 (ix2 (hi d) t)))))
      (right (slope (hLane x0 x1 x2 t) wd d) (bin (wt (hLane x0 x1 x2 t) ww d) (clipR (x0 (ix2 (hi d) t))))) where
  posE k := wt_pos _ _ d k
  posH k := wt_pos _ _ d k
  big k := by
    refine exp_big _ (logit_ge _ _ _ (fun j => ?_) (B.bound _))
    obtain ⟨r, hr, hb⟩ := hidE_real (fun l => x0 (ix2 (lo l) t)) (mat x1) (mat x2) j
    show |(hidE (fun l => x0 (ix2 (lo l) t)) (mat x1) (mat x2) j).toReal| ≤ 1
    rw [hr, EReal.toReal_coe]
    exact hb
  totE := k_tot t B.W B.T d
  totH := k_totH t B.W B.T d
  pt := k_scaled (block_lane B t) d
  w := (k_pick (block_lane B t) B.T _ d).trans (k_E t B.W d _)
  up := k_upto (block_lane B t) B.T _ (fun d => wt (hLane x0 x1 x2 t) wh d) (fun d k => k_H t B.W d k) d
  ht := (k_pick (block_lane B t) B.T _ d).trans (k_H t B.W d _)
  lt := k_left (block_lane B t) B.T _ (fun d => slope (hLane x0 x1 x2 t) wd d) (fun d k h => k_sl t B.W d k h) d
  rt := k_right (block_lane B t) B.T _ (fun d => slope (hLane x0 x1 x2 t) wd d) (fun d k h => k_s t B.W d k h) d
  lo := by
    have h1 := k_upto (block_lane (x0 := x0) (x1 := x1) (x2 := x2) B t) B.T (k0_pay8 (F := Ideal) x0 x1 x2 x3) (fun d => wt (hLane x0 x1 x2 t) ww d) (fun d k => k_E t B.W d k) d
    have h2 := (k_pick (block_lane (x0 := x0) (x1 := x1) (x2 := x2) B t) B.T (k0_pay8 (F := Ideal) x0 x1 x2 x3) d).trans (k_E t B.W d _)
    refine (congrArg₂ (· - ·) h1 h2).trans ?_
    show (cum (wt (hLane x0 x1 x2 t) ww d) (_ + 1) : EReal) - (wt (hLane x0 x1 x2 t) ww d _ : EReal) = _
    rw [cum_succ, ← EReal.coe_sub, add_sub_cancel_right]

/-- What the first output block holds. -/
def blockOut (x0 : FVec Ideal S16x4096 .f32) (x1 : FVec Ideal S8x50 .f32) (x2 : FVec Ideal S50x50 .f32) (ww wh : Fin 50 → Fin 80 → EReal)
    (wd : Fin 50 → Fin 72 → EReal) (c : Fin 16) (t : Fin 4096) : EReal :=
  if h : c.val < 8 then x0 (ix2 c t) else zLane x0 x1 x2 ww wh wd ⟨c.val - 8, by omega⟩ t

theorem blockOut_hi (d : Fin 8) (t : Fin 4096) : blockOut x0 x1 x2 ww wh wd (hi d) t = zLane x0 x1 x2 ww wh wd d t := by
  unfold blockOut
  rw [dif_neg (show ¬ ((hi d).val < 8) from (show ¬ (8 + d.val < 8) by omega))]
  exact congrArg (fun e => zLane x0 x1 x2 ww wh wd e t) (Fin.ext (show 8 + d.val - 8 = d.val by omega))

theorem blockOut_lo (l : Fin 8) (t : Fin 4096) : blockOut x0 x1 x2 ww wh wd (lo l) t = x0 (ix2 (lo l) t) := by
  unfold blockOut
  exact dif_pos (show l.val < 8 from l.isLt)

/-- The first output block: a column of the input's first half as it is, its second half transformed. -/
theorem block_out (B : Block x3 x4 x5 x6 x7 x8 x9 ww wh wd) (c : Fin 16) (t : Fin 4096) :
    out0_10 (F := Ideal) x0 x1 x2 x3 x4 x5 x6 x7 x8 x9 (ix2 c t) = blockOut x0 x1 x2 ww wh wd c t := by
  unfold out0_10 k0_pay50 k0_pay49 k0_pay48 k0_pay47 k0_pay46 k0_pay45 k0_pay44 k0_pay43 k0_pay42 k0_pay41 k0_pay40 k0_pay39 k0_pay38 k0_pay37
  simp only [View.ld_unit_zero (S := S16x4096) zeros2, View.ld_unit_zero (S := S8x50) zeros2, View.ld_unit_zero (S := S50x50) zeros2,
    View.ld_unit_zero (S := S50x240) zeros2, View.ld_unit_zero (S := S80x80) zeros2, View.ld_unit_zero (S := S80x8) zeros2,
    View.ld_unit_zero (S := S8x80) zeros2, View.ld_unit_zero (S := S16x80) zeros2, View.ld_unit_zero (S := S80x1) zeros2]
  refine View.canon_apply_of_pieces (Val := Elt Ideal) (S := S16x4096) (e := .f32) (fun i => blockOut x0 x1 x2 ww wh wd (i 0) (i 1)) _ ?_ (ix2 c t) (cover0_10 _ _ _)
  intro p hp x
  rcases List.mem_cons.1 hp with rfl | hp
  · obtain ⟨d, s, rfl⟩ : ∃ (d : Fin 8) (s : Fin 4096), x = ix2 d s := ⟨x 0, x 1, eq_ix2 x⟩
    have e : r0_10.emb (ix2 d s) = ix2 (hi d) s := by
      funext a
      match a with
      | ⟨0, _⟩ => exact Fin.ext (show 8 + 1 * d.val = 8 + d.val by omega)
      | ⟨1, _⟩ => exact Fin.ext (show 0 + 1 * s.val = s.val by omega)
    refine Eq.trans ?_ (congrArg (fun i : S16x4096.Idx => blockOut x0 x1 x2 ww wh wd (i 0) (i 1)) e).symm
    refine Eq.trans ?_ (blockOut_hi d s).symm
    have hu : k0_pay6 (F := Ideal) x0 (ix2 d s) = x0 (ix2 (hi d) s) := k_u s d
    have hz := k_inner (block_vals (x0 := x0) (x1 := x1) (x2 := x2) B d s)
    refine (congrArg₂ (fun a b => Scalar.select a b (k0_pay6 (F := Ideal) x0 (ix2 d s))) (k_inside _ _) hz).trans ?_
    unfold zLane zOf
    rw [hu]
    by_cases h1 : ((-3 : ℝ) : EReal) < x0 (ix2 (hi d) s) ∧ x0 (ix2 (hi d) s) < ((3 : ℝ) : EReal)
    · rw [if_pos h1, if_pos h1]; rfl
    · rw [if_neg h1, if_neg h1]; rfl
  · obtain rfl := List.mem_singleton.1 hp
    obtain ⟨l, s, rfl⟩ : ∃ (l : Fin 8) (s : Fin 4096), x = ix2 l s := ⟨x 0, x 1, eq_ix2 x⟩
    have e : r0_9.emb (ix2 l s) = ix2 (lo l) s := by
      funext a
      match a with
      | ⟨0, _⟩ => exact Fin.ext (show 0 + 1 * l.val = l.val by omega)
      | ⟨1, _⟩ => exact Fin.ext (show 0 + 1 * s.val = s.val by omega)
    refine Eq.trans ?_ (congrArg (fun i : S16x4096.Idx => blockOut x0 x1 x2 ww wh wd (i 0) (i 1)) e).symm
    refine Eq.trans ?_ (blockOut_lo l s).symm
    exact (slice_rows 0 (k0_pay5 (F := Ideal) x0) slices_S16x4096_o0_0_S8x4096 l s (lo l) (Nat.zero_add l.val).symm).trans (k_x s (lo l))

/-- The second output block: the log-derivatives of the block's lanes, summed. -/
theorem block_sum (B : Block x3 x4 x5 x6 x7 x8 x9 ww wh wd) (i : S1x1x1.Idx) :
    out0_11 (F := Ideal) x0 x1 x2 x3 x4 x5 x6 x7 x8 x9 i = ∑ t : Fin 4096, ∑ d : Fin 8, ldLane x0 x1 x2 ww wh wd d t := by
  unfold out0_11 k0_pay50 k0_pay49 k0_pay48 k0_pay47 k0_pay46 k0_pay45 k0_pay44 k0_pay43 k0_pay42 k0_pay41 k0_pay40 k0_pay39 k0_pay38 k0_pay37
  simp only [View.ld_unit_zero (S := S16x4096) zeros2, View.ld_unit_zero (S := S8x50) zeros2, View.ld_unit_zero (S := S50x50) zeros2,
    View.ld_unit_zero (S := S50x240) zeros2, View.ld_unit_zero (S := S80x80) zeros2, View.ld_unit_zero (S := S80x8) zeros2,
    View.ld_unit_zero (S := S8x80) zeros2, View.ld_unit_zero (S := S16x80) zeros2, View.ld_unit_zero (S := S80x1) zeros2]
  rw [View.canon_unit_zero (S := S1x1x1) zeros3, k_sum]
  refine Finset.sum_congr rfl fun t _ => Finset.sum_congr rfl fun d _ => ?_
  have hu : k0_pay6 (F := Ideal) x0 (ix2 d t) = x0 (ix2 (hi d) t) := k_u t d
  rw [hu, k_logd (block_vals (x0 := x0) (x1 := x1) (x2 := x2) B d t)]
  rfl

end Cert.Spline

end

end
-- ==== Proof.Spline.KTables.lean ====
/-
  The kernel's tables of zeros and ones, by coordinate and bin.
-/
module

public import proofs.«01_k».proof.Proof.Spline.KLanes

@[expose] public section

noncomputable section

namespace Cert.Spline

open Idealize.ShloMosaic hiding ix1 ix2 ix3 ix4 eq_ix1 eq_ix2 eq_ix3
open Idealize.ShloMosaic.ValueIdx Cert.KernelIdeal Cert.KernelIdeal.Gen

theorem words_exc : ∀ (d : Fin 8) (k : Fin 10) (d' : Fin 8) (k' : Fin 10), lit0t ((10 * d.val + k.val) * 80 + (10 * d'.val + k'.val))
    = if d' = d ∧ k'.val < k.val then 0x3F800000#32 else 0x00000000#32 := by decide +kernel
theorem words_rep : ∀ (d : Fin 8) (k : Fin 10) (d' : Fin 8), lit1t ((10 * d.val + k.val) * 8 + d'.val)
    = if d' = d then 0x3F800000#32 else 0x00000000#32 := by decide +kernel
theorem words_rept : ∀ (d d' : Fin 8) (k : Fin 10), lit2t (d.val * 80 + (10 * d'.val + k.val))
    = if d' = d then 0x3F800000#32 else 0x00000000#32 := by decide +kernel
theorem words_rdl : ∀ (d d' : Fin 8) (k : Fin 10), lit3t (d.val * 80 + (10 * d'.val + k.val))
    = if d' = d ∧ k.val ≠ 0 then 0x3F800000#32 else 0x00000000#32 := by decide +kernel
theorem words_rdh : ∀ (d d' : Fin 8) (k : Fin 10), lit3t ((8 + d.val) * 80 + (10 * d'.val + k.val))
    = if d' = d ∧ k.val ≠ 9 then 0x3F800000#32 else 0x00000000#32 := by decide +kernel
theorem words_rbl : ∀ (d d' : Fin 8) (k : Fin 10), lit4t (d.val * 80 + (10 * d'.val + k.val))
    = if d' = d ∧ k.val = 0 then 0x3F800000#32 else 0x00000000#32 := by decide +kernel
theorem words_rbh : ∀ (d d' : Fin 8) (k : Fin 10), lit4t ((8 + d.val) * 80 + (10 * d'.val + k.val))
    = if d' = d ∧ k.val = 9 then 0x3F800000#32 else 0x00000000#32 := by decide +kernel
theorem words_m9 : ∀ (d : Fin 8) (k : Fin 10), lit5 (q80 d k) = if k.val = 9 then 0x3F800000#32 else 0x00000000#32 := by decide +kernel

/-- A word that is one or zero by a condition denotes one or zero by that condition. -/
theorem word_val (p : Prop) [Decidable p] :
    Ideal.ofBits .f32 (if p then 0x3F800000#32 else 0x00000000#32) = if p then (1 : EReal) else 0 := by
  by_cases h : p
  · rw [if_pos h, if_pos h, lit_one, EReal.coe_one]
  · rw [if_neg h, if_neg h, lit_zero]

/-- The words of the constants are the tables. -/
theorem tables (v0 : FVec Ideal S80x1 .f32)
    (h0 : v0 = broadcastInDim S80x1 ![0] bcast_S80_S80x1_0 (fun i => FloatOps.ofBits (F := Ideal) .f32 (lit5 (S80.rowMajor i)))) :
    Tables (fun i => FloatOps.ofBits (F := Ideal) .f32 (lit0 (S80x80.rowMajor i)))
      (fun i => FloatOps.ofBits (F := Ideal) .f32 (lit2 (S8x80.rowMajor i)))
      (fun i => FloatOps.ofBits (F := Ideal) .f32 (lit1 (S80x8.rowMajor i)))
      (fun i => FloatOps.ofBits (F := Ideal) .f32 (lit3 (S16x80.rowMajor i)))
      (fun i => FloatOps.ofBits (F := Ideal) .f32 (lit4 (S16x80.rowMajor i))) v0 where
  exc d k d' k' := by
    have e : lit0 (S80x80.rowMajor (ix2 (q80 d k) (q80 d' k'))) = _ :=
      (congrArg lit0t (Shape.rowMajor_val_two _)).trans (words_exc d k d' k')
    refine (congrArg (Ideal.ofBits .f32) e).trans ((word_val _).trans ?_)
    by_cases h : d' = d <;> simp [h]
  rept d d' k := by
    have e : lit2 (S8x80.rowMajor (ix2 d (q80 d' k))) = _ := (congrArg lit2t (Shape.rowMajor_val_two _)).trans (words_rept d d' k)
    exact (congrArg (Ideal.ofBits .f32) e).trans (word_val _)
  rep d k d' := by
    have e : lit1 (S80x8.rowMajor (ix2 (q80 d k) d')) = _ := (congrArg lit1t (Shape.rowMajor_val_two _)).trans (words_rep d k d')
    exact (congrArg (Ideal.ofBits .f32) e).trans (word_val _)
  rdl d d' k := by
    have e : lit3 (S16x80.rowMajor (ix2 (lo d) (q80 d' k))) = _ := (congrArg lit3t (Shape.rowMajor_val_two _)).trans (words_rdl d d' k)
    refine (congrArg (Ideal.ofBits .f32) e).trans ((word_val _).trans ?_)
    by_cases h : d' = d <;> by_cases h' : k.val = 0 <;> simp [h, h']
  rdh d d' k := by
    have e : lit3 (S16x80.rowMajor (ix2 (hi d) (q80 d' k))) = _ := (congrArg lit3t (Shape.rowMajor_val_two _)).trans (words_rdh d d' k)
    refine (congrArg (Ideal.ofBits .f32) e).trans ((word_val _).trans ?_)
    by_cases h : d' = d <;> by_cases h' : k.val = 9 <;> simp [h, h']
  rbl d d' k := by
    have e : lit4 (S16x80.rowMajor (ix2 (lo d) (q80 d' k))) = _ := (congrArg lit4t (Shape.rowMajor_val_two _)).trans (words_rbl d d' k)
    refine (congrArg (Ideal.ofBits .f32) e).trans ((word_val _).trans ?_)
    by_cases h : d' = d <;> by_cases h' : k.val = 0 <;> simp [h, h']
  rbh d d' k := by
    have e : lit4 (S16x80.rowMajor (ix2 (hi d) (q80 d' k))) = _ := (congrArg lit4t (Shape.rowMajor_val_two _)).trans (words_rbh d d' k)
    refine (congrArg (Ideal.ofBits .f32) e).trans ((word_val _).trans ?_)
    by_cases h : d' = d <;> by_cases h' : k.val = 9 <;> simp [h, h']
  m9 d k := by
    subst h0
    refine (broadcastInDim_apply ![0] bcast_S80_S80x1_0 _ (ix2 (q80 d k) (0 : Fin 1)) (ix1 (q80 d k)) (fun a => ?_)).trans ?_
    · match a with
      | ⟨0, _⟩ => rfl
    · have e : lit5 (S80.rowMajor (ix1 (q80 d k))) = _ := (congrArg lit5 (Fin.ext (Shape.rowMajor_val_one _))).trans (words_m9 d k)
      exact (congrArg (Ideal.ofBits .f32) e).trans (word_val _)

end Cert.Spline

end

end
-- ==== Proof.Spline.KHost.lean ====
/-
  What the lines before the kernel leave in its operands: the joined weight matrix, the transposed input and the tables.
-/
module

public import proofs.«01_k».proof.Proof.Spline.KBlock
public import proofs.«01_k».proof.Proof.Spline.KTables
public import Idealize.ShloMosaic.Lib.StableHlo.Run

@[expose] public section

noncomputable section

namespace Cert.Spline

open Idealize.ShloMosaic hiding ix1 ix2 ix3 ix4 eq_ix1 eq_ix2 eq_ix3
open Idealize.ShloMosaic.ValueIdx Idealize.ShloMosaic.TcCoe Idealize.SL.Sem Cert.KernelIdeal Cert.KernelIdeal.Gen
open scoped BigOperators

/-- A weight matrix times six. -/
def six (x : FVec Ideal S50x80 .f32) : FVec Ideal S50x80 .f32 :=
  mulf (broadcastInDim S50x80 ![] bcast_S_S50x80 (constant (F := Ideal) S_ .f32 0x40C00000#32)) x

/-- The slopes' matrix with one column of zeros after each coordinate's nine. -/
def padded (x9 : FVec Ideal S50x72 .f32) : FVec Ideal S50x80 .f32 :=
  shapeCast S50x80 (concatenate S50x8x10 2 [⟨S50x8x9, shapeCast S50x8x9 x9 shapeCasts_S50x72_S50x8x9⟩,
    ⟨S50x8x1, broadcastInDim S50x8x1 ![] bcast_S_S50x8x1 (constant (F := Ideal) S_ .f32 0x00000000#32)⟩]
    concatenates_S50x8x9_S50x8x1_S50x8x10_d2) shapeCasts_S50x8x10_S50x80

/-- The joined weight matrix. -/
def joined (x5 x7 : FVec Ideal S50x80 .f32) (x9 : FVec Ideal S50x72 .f32) : FVec Ideal S50x240 .f32 :=
  concatenate S50x240 1 [⟨S50x80, six x5⟩, ⟨S50x80, six x7⟩, ⟨S50x80, padded x9⟩]
    concatenates_S50x80_S50x80_S50x80_S50x240_d1

theorem six_apply (x : FVec Ideal S50x80 .f32) (i : S50x80.Idx) : six x i = ((6 : ℝ) : EReal) * x i := by
  show Ideal.ofBits .f32 0x40C00000#32 * x i = _
  have h : Ideal.ofBits .f32 0x40C00000#32 = ((6 : ℝ) : EReal) := by
    simp [Ideal.ofBits, Ideal.ieee, -EReal.coe_mul]; norm_num
  rw [h]

theorem padded_apply (x9 : FVec Ideal S50x72 .f32) (j : Fin 50) (d : Fin 8) (p : Fin 9) :
    padded x9 (ix2 j (⟨10 * d.val + p.val, by omega⟩ : Fin 80)) = x9 (ix2 j (q72 d p)) := by
  unfold padded
  rw [shapeCast_apply _ _ (ix2 j (⟨10 * d.val + p.val, by omega⟩ : Fin 80)) (ix3 j d (⟨p.val, by omega⟩ : Fin 10)) (by
    rw [Shape.rowMajor_val_three, Shape.rowMajor_val_two]
    show (j.val * 8 + d.val) * 10 + p.val = j.val * 80 + (10 * d.val + p.val)
    omega)]
  rw [concatenate_apply_piece (t := S50x8x10) 2 _ (by exact concatenates_S50x8x9_S50x8x1_S50x8x10_d2) (ix3 j d (⟨p.val, by omega⟩ : Fin 10)) 0
    (by exact Nat.zero_lt_two) S50x8x9 _ rfl rfl 0 rfl (ix3 j d p) (fun b hb => by
      match b with
      | ⟨0, _⟩ => rfl
      | ⟨1, _⟩ => rfl
      | ⟨2, _⟩ => exact absurd rfl hb) (by exact Nat.zero_add p.val)]
  exact shapeCast_apply _ _ _ _ (by
    rw [Shape.rowMajor_val_three, Shape.rowMajor_val_two]
    show j.val * 72 + (9 * d.val + p.val) = (j.val * 8 + d.val) * 9 + p.val
    omega)

/-- The joined matrix read in its three parts. -/
theorem joined_wcat {x5 x7 : FVec Ideal S50x80 .f32} (x9 : FVec Ideal S50x72 .f32) (h5 : ∀ i, ∃ r : ℝ, x5 i = (r : EReal))
    (h7 : ∀ i, ∃ r : ℝ, x7 i = (r : EReal)) : Wcat (joined x5 x7 x9) (mat x5) (mat x7) (mat x9) where
  w j q := by
    unfold joined
    rw [concatenate_apply_piece (t := S50x240) 1 _ (by exact concatenates_S50x80_S50x80_S50x80_S50x240_d1) (ix2 j (⟨q.val, by omega⟩ : Fin 240)) 0
      (by exact Nat.zero_lt_succ 2) S50x80 _ rfl rfl 0 rfl (ix2 j q) (fun b hb => by
        match b with
        | ⟨0, _⟩ => rfl
        | ⟨1, _⟩ => exact absurd rfl hb) (by exact Nat.zero_add q.val)]
    exact six_apply x5 _
  h j q := by
    unfold joined
    rw [concatenate_apply_piece (t := S50x240) 1 _ (by exact concatenates_S50x80_S50x80_S50x80_S50x240_d1) (ix2 j (⟨80 + q.val, by omega⟩ : Fin 240)) 1
      (by exact Nat.succ_lt_succ (Nat.zero_lt_succ 1)) S50x80 _ rfl rfl 80 rfl (ix2 j q) (fun b hb => by
        match b with
        | ⟨0, _⟩ => rfl
        | ⟨1, _⟩ => exact absurd rfl hb) (by exact rfl)]
    exact six_apply x7 _
  d j d p := by
    unfold joined
    rw [concatenate_apply_piece (t := S50x240) 1 _ (by exact concatenates_S50x80_S50x80_S50x80_S50x240_d1) (ix2 j (⟨160 + (10 * d.val + p.val), by omega⟩ : Fin 240)) 2
      (by exact Nat.succ_lt_succ (Nat.succ_lt_succ (Nat.zero_lt_succ 0))) S50x80 _ rfl rfl 160 rfl
      (ix2 j (⟨10 * d.val + p.val, by omega⟩ : Fin 80)) (fun b hb => by
        match b with
        | ⟨0, _⟩ => rfl
        | ⟨1, _⟩ => exact absurd rfl hb) (by exact rfl)]
    exact padded_apply x9 j d p
  rw j q := h5 _
  rh j q := h7 _

variable (m : (ℓ : Loc nD τ sig) → Buf (Elt Ideal) ℓ) (c : Dev nD)

/-- The joined weight matrix as the kernel finds it. -/
theorem V_v9 : V m c main_v9 = joined (m ((c : Thread nD τ).loc main_arg5)) (m ((c : Thread nD τ).loc main_arg7))
    (m ((c : Thread nD τ).loc main_arg9)) := by
  show StableHlo.after hostOps0 _ (Proc.devRef .tc main_v9) = _
  after_results
  rfl

/-- The transposed input as the kernel finds it. -/
theorem V_v10 (r : Fin 16) (n : Fin 262144) : V m c main_v10 (ix2 r n) = m ((c : Thread nD τ).loc main_arg0) (ix2 n r) := by
  have h : V m c main_v10 = transpose S16x262144 [1, 0] (m ((c : Thread nD τ).loc main_arg0)) transposes_S262144x16_S16x262144_1_0 := by
    show StableHlo.after hostOps0 _ (Proc.devRef .tc main_v10) = _
    after_results
  rw [h]
  exact transpose_apply _ _ _ _ _ (fun b => by
    match b with
    | ⟨0, _⟩ => rfl
    | ⟨1, _⟩ => rfl)

theorem V_cst : V m c main_cst = fun i => FloatOps.ofBits (F := Ideal) .f32 (lit0 (S80x80.rowMajor i)) := by
  show StableHlo.after hostOps0 _ (Proc.devRef .tc main_cst) = _
  after_results
  rfl
theorem V_cst_0 : V m c main_cst_0 = fun i => FloatOps.ofBits (F := Ideal) .f32 (lit1 (S80x8.rowMajor i)) := by
  show StableHlo.after hostOps0 _ (Proc.devRef .tc main_cst_0) = _
  after_results
  rfl
theorem V_cst_1 : V m c main_cst_1 = fun i => FloatOps.ofBits (F := Ideal) .f32 (lit2 (S8x80.rowMajor i)) := by
  show StableHlo.after hostOps0 _ (Proc.devRef .tc main_cst_1) = _
  after_results
  rfl
theorem V_cst_2 : V m c main_cst_2 = fun i => FloatOps.ofBits (F := Ideal) .f32 (lit3 (S16x80.rowMajor i)) := by
  show StableHlo.after hostOps0 _ (Proc.devRef .tc main_cst_2) = _
  after_results
  rfl
theorem V_cst_3 : V m c main_cst_3 = fun i => FloatOps.ofBits (F := Ideal) .f32 (lit4 (S16x80.rowMajor i)) := by
  show StableHlo.after hostOps0 _ (Proc.devRef .tc main_cst_3) = _
  after_results
  rfl
theorem V_v0 : V m c main_v0 = broadcastInDim S80x1 ![0] bcast_S80_S80x1_0
    (fun i => FloatOps.ofBits (F := Ideal) .f32 (lit5 (S80.rowMajor i))) := by
  show StableHlo.after hostOps0 _ (Proc.devRef .tc main_v0) = _
  after_results
  rfl

/-- The tables as the kernel finds them. -/
theorem V_tables : Tables (V m c main_cst) (V m c main_cst_1) (V m c main_cst_0) (V m c main_cst_2) (V m c main_cst_3) (V m c main_v0) := by
  rw [V_cst, V_cst_0, V_cst_1, V_cst_2, V_cst_3]
  exact tables _ (V_v0 m c)

end Cert.Spline

end

end
-- ==== Proof.Spline.KRun.lean ====
/-
  The blocks that the kernel reads, from the arguments, and the arrays that its blocks make up.
-/
module

public import proofs.«01_k».proof.Proof.Spline.KHost
public import Idealize.ShloMosaic.Lib.Pipeline.ValueKit.Geometry

@[expose] public section

noncomputable section

namespace Cert.Spline

open Idealize.ShloMosaic hiding ix1 ix2 ix3 ix4 eq_ix1 eq_ix2 eq_ix3
open Idealize.ShloMosaic.ValueIdx Idealize.ShloMosaic.TcCoe Idealize.SL.Sem Cert.KernelIdeal Cert.KernelIdeal.Gen
open scoped BigOperators

/-- The block that a window reads or writes at a point of the grid: the input and the output move along the rows, each sum has its own
    place, and every other window is the whole of its array. -/
theorem idx_moving : ∀ t : Fin cfg0.N, win0_0.index t (0 : Fin 2) = 0 ∧ win0_0.index t (1 : Fin 2) = t.val ∧
    win0_10.index t (0 : Fin 2) = 0 ∧ win0_10.index t (1 : Fin 2) = t.val ∧
    win0_11.index t (0 : Fin 3) = t.val ∧ win0_11.index t (1 : Fin 3) = 0 ∧ win0_11.index t (2 : Fin 3) = 0 :=
  (by decide +kernel : ∀ t : Fin grid0.N, _)

theorem points : cfg0.N = 64 := by decide

variable (m : (ℓ : Loc nD τ sig) → Buf (Elt Ideal) ℓ) (c : Dev nD)

/-- The other windows' block is the first one at every point. -/
theorem idx_whole : ∀ t : Fin cfg0.N, (∀ a : Fin 2, win0_1.index t a = 0) ∧
    (∀ a : Fin 2, win0_2.index t a = 0) ∧
    (∀ a : Fin 2, win0_3.index t a = 0) ∧
    (∀ a : Fin 2, win0_4.index t a = 0) ∧
    (∀ a : Fin 2, win0_5.index t a = 0) ∧
    (∀ a : Fin 2, win0_6.index t a = 0) ∧
    (∀ a : Fin 2, win0_7.index t a = 0) ∧
    (∀ a : Fin 2, win0_8.index t a = 0) ∧
    (∀ a : Fin 2, win0_9.index t a = 0) :=
  (by decide +kernel : ∀ t : Fin grid0.N, _)

/-- Read through a map that keeps every coordinate, an array is itself. -/
theorem read_whole {s : Shape} {α : Type} (X : s.Idx → α) (e : s.Idx → s.Idx) (h : ∀ j a, (e j a).val = (j a).val) :
    (fun j => X (e j)) = X :=
  funext fun j => congrArg X (funext fun a => Fin.ext (h j a))

theorem iblk1 (t : Fin cfg0.N) : iblk m c 1 t = V m c main_arg1 :=
  read_whole (V m c main_arg1) (win0_1.rect t).emb fun j a => Pipeline.Window.rect_emb_val_of_index_zero win0_1 t a ((idx_whole t).1 a) j
theorem iblk2 (t : Fin cfg0.N) : iblk m c 2 t = V m c main_arg3 :=
  read_whole (V m c main_arg3) (win0_2.rect t).emb fun j a => Pipeline.Window.rect_emb_val_of_index_zero win0_2 t a ((idx_whole t).2.1 a) j
theorem iblk3 (t : Fin cfg0.N) : iblk m c 3 t = V m c main_v9 :=
  read_whole (V m c main_v9) (win0_3.rect t).emb fun j a => Pipeline.Window.rect_emb_val_of_index_zero win0_3 t a ((idx_whole t).2.2.1 a) j
theorem iblk4 (t : Fin cfg0.N) : iblk m c 4 t = V m c main_cst :=
  read_whole (V m c main_cst) (win0_4.rect t).emb fun j a => Pipeline.Window.rect_emb_val_of_index_zero win0_4 t a ((idx_whole t).2.2.2.1 a) j
theorem iblk5 (t : Fin cfg0.N) : iblk m c 5 t = V m c main_cst_0 :=
  read_whole (V m c main_cst_0) (win0_5.rect t).emb fun j a => Pipeline.Window.rect_emb_val_of_index_zero win0_5 t a ((idx_whole t).2.2.2.2.1 a) j
theorem iblk6 (t : Fin cfg0.N) : iblk m c 6 t = V m c main_cst_1 :=
  read_whole (V m c main_cst_1) (win0_6.rect t).emb fun j a => Pipeline.Window.rect_emb_val_of_index_zero win0_6 t a ((idx_whole t).2.2.2.2.2.1 a) j
theorem iblk7 (t : Fin cfg0.N) : iblk m c 7 t = V m c main_cst_2 :=
  read_whole (V m c main_cst_2) (win0_7.rect t).emb fun j a => Pipeline.Window.rect_emb_val_of_index_zero win0_7 t a ((idx_whole t).2.2.2.2.2.2.1 a) j
theorem iblk8 (t : Fin cfg0.N) : iblk m c 8 t = V m c main_cst_3 :=
  read_whole (V m c main_cst_3) (win0_8.rect t).emb fun j a => Pipeline.Window.rect_emb_val_of_index_zero win0_8 t a ((idx_whole t).2.2.2.2.2.2.2.1 a) j
theorem iblk9 (t : Fin cfg0.N) : iblk m c 9 t = V m c main_v0 :=
  read_whole (V m c main_v0) (win0_9.rect t).emb fun j a => Pipeline.Window.rect_emb_val_of_index_zero win0_9 t a ((idx_whole t).2.2.2.2.2.2.2.2 a) j

/-- The row that lane `s` of point `t` works on. -/
def rowOf (t : Fin cfg0.N) (s : Fin 4096) : Fin 262144 := ⟨t.val * 4096 + s.val, by have := t.isLt; have h := points; omega⟩

/-- Window 0's block at a point: sixteen coordinates of 4096 rows of the input. -/
theorem iblk0 (t : Fin cfg0.N) (r : Fin 16) (s : Fin 4096) :
    iblk m c 0 t (ix2 r s) = m ((c : Thread nD τ).loc main_arg0) (ix2 (rowOf t s) r) := by
  refine Eq.trans ?_ (V_v10 m c r (rowOf t s))
  show V m c main_v10 (((cfg0.win 0).blk t).view.emb (ix2 r s)) = V m c main_v10 (ix2 r (rowOf t s))
  refine congrArg (V m c main_v10) (funext fun a => Fin.ext ?_)
  obtain ⟨e0, e1, -⟩ := idx_moving t
  match a with
  | ⟨0, _⟩ => show win0_0.index t (0 : Fin 2) * 16 + 1 * r.val = r.val; omega
  | ⟨1, _⟩ => show win0_0.index t (1 : Fin 2) * 4096 + 1 * s.val = t.val * 4096 + s.val; omega

/-- What is asked of the arguments: the two weight matrices are finite, and the columns of the first are bounded. -/
structure Args (x5 x7 : FVec Ideal S50x80 .f32) : Prop where
  h5 : ∀ i, ∃ r : ℝ, x5 i = (r : EReal)
  h7 : ∀ i, ∃ r : ℝ, x7 i = (r : EReal)
  bound : ∀ q : Fin 80, ∑ j : Fin 50, |(x5 (ix2 j q)).toReal| ≤ 13

variable (A : Args (m ((c : Thread nD τ).loc main_arg5)) (m ((c : Thread nD τ).loc main_arg7)))
include A

/-- At every point the kernel's body finds what the proof about its body asks. -/
theorem at_block (t : Fin cfg0.N) :
    Block (iblk m c 3 t) (iblk m c 4 t) (iblk m c 5 t) (iblk m c 6 t) (iblk m c 7 t) (iblk m c 8 t) (iblk m c 9 t)
      (mat (m ((c : Thread nD τ).loc main_arg5))) (mat (m ((c : Thread nD τ).loc main_arg7))) (mat (m ((c : Thread nD τ).loc main_arg9))) := by
  rw [iblk3, iblk4, iblk5, iblk6, iblk7, iblk8, iblk9]
  refine ⟨V_tables m c, ?_, A.bound⟩
  rw [V_v9]
  exact joined_wcat _ A.h5 A.h7

omit A in
/-- The hidden layer in a lane is the hidden layer of the lane's row. -/
theorem lane_hidden (t : Fin cfg0.N) (s : Fin 4096) : hLane (iblk m c 0 t) (iblk m c 1 t) (iblk m c 2 t) s =
    hRow (m ((c : Thread nD τ).loc main_arg0)) (m ((c : Thread nD τ).loc main_arg1)) (m ((c : Thread nD τ).loc main_arg3)) (rowOf t s) := by
  have e : (fun l : Fin 8 => iblk m c 0 t (ix2 (lo l) s)) = fun l : Fin 8 => m ((c : Thread nD τ).loc main_arg0) (ix2 (rowOf t s) (lo l)) :=
    funext fun l => iblk0 m c t (lo l) s
  have e1 : iblk m c 1 t = m ((c : Thread nD τ).loc main_arg1) := (iblk1 m c t).trans (V_main_arg1 m c)
  have e2 : iblk m c 2 t = m ((c : Thread nD τ).loc main_arg3) := (iblk2 m c t).trans (V_main_arg3 m c)
  show hidE (fun l : Fin 8 => iblk m c 0 t (ix2 (lo l) s)) (mat (iblk m c 1 t)) (mat (iblk m c 2 t)) = hidE _ _ _
  rw [e, e1, e2]

/-- The kernel's first array, coordinate by row. -/
def kOut (i : S16x262144.Idx) : EReal :=
  outArr (m ((c : Thread nD τ).loc main_arg0)) (m ((c : Thread nD τ).loc main_arg1)) (m ((c : Thread nD τ).loc main_arg3))
    (m ((c : Thread nD τ).loc main_arg5)) (m ((c : Thread nD τ).loc main_arg7)) (m ((c : Thread nD τ).loc main_arg9)) (i 1) (i 0)

/-- The log-derivative of a row's coordinate. -/
def kLog (n : Fin 262144) (d : Fin 8) : EReal :=
  ldArr (m ((c : Thread nD τ).loc main_arg0)) (m ((c : Thread nD τ).loc main_arg1)) (m ((c : Thread nD τ).loc main_arg3))
    (m ((c : Thread nD τ).loc main_arg5)) (m ((c : Thread nD τ).loc main_arg7)) (m ((c : Thread nD τ).loc main_arg9)) n d

/-- The kernel's second array: each point's sum over its rows. -/
def kSum (i : S64x1x1.Idx) : EReal := ∑ s : Fin 4096, ∑ d : Fin 8, kLog m c (rowOf ⟨(i 0).val, (i 0).isLt.trans_eq points.symm⟩ s) d

/-- What a point leaves in its block of the first array. -/
theorem after_out (t : Fin cfg0.N) (r : Fin 16) (s : Fin 4096) : (dats m 0 c).after 10 t (ix2 r s) = kOut m c (ix2 r (rowOf t s)) := by
  rw [after0_10]
  refine (block_out (x0 := iblk m c 0 t) (x1 := iblk m c 1 t) (x2 := iblk m c 2 t) (at_block m c A t) r s).trans ?_
  unfold blockOut kOut
  show _ = outArr _ _ _ _ _ _ (rowOf t s) r
  unfold outArr
  by_cases h : r.val < 8
  · rw [dif_pos h, dif_pos h]
    exact iblk0 m c t r s
  · rw [dif_neg h, dif_neg h]
    unfold zLane zArr
    rw [lane_hidden, iblk0]

/-- What a point leaves in its place of the second array. -/
theorem after_sum (t : Fin cfg0.N) (y : S1x1x1.Idx) :
    (dats m 0 c).after 11 t y = ∑ s : Fin 4096, ∑ d : Fin 8, kLog m c (rowOf t s) d := by
  rw [after0_11]
  refine (block_sum (x0 := iblk m c 0 t) (x1 := iblk m c 1 t) (x2 := iblk m c 2 t) (at_block m c A t) y).trans ?_
  refine Finset.sum_congr rfl fun s _ => Finset.sum_congr rfl fun d _ => ?_
  unfold ldLane kLog ldArr
  rw [lane_hidden, iblk0]

/-- The first array after the run. -/
theorem arr_out : (dats m 0 c).arrAt 10 cfg0.N = kOut m c := by
  refine (dats m 0 c).arrAt_eq_of_covers 10 _ (by decide +kernel) fun t hf y => ?_
  obtain ⟨r, s, rfl⟩ : ∃ (r : Fin 16) (s : Fin 4096), y = ix2 r s := ⟨y 0, y 1, eq_ix2 y⟩
  refine (after_out m c A t r s).trans (congrArg (kOut m c) (funext fun a => Fin.ext ?_))
  obtain ⟨-, -, e0, e1, -⟩ := idx_moving t
  match a with
  | ⟨0, _⟩ => show r.val = win0_10.index t (0 : Fin 2) * 16 + 1 * r.val; omega
  | ⟨1, _⟩ => show t.val * 4096 + s.val = win0_10.index t (1 : Fin 2) * 4096 + 1 * s.val; omega

/-- The second array after the run. -/
theorem arr_sum : (dats m 0 c).arrAt 11 cfg0.N = kSum m c := by
  refine (dats m 0 c).arrAt_eq_of_covers 11 _ (by decide +kernel) fun t hf y => ?_
  refine (after_sum m c A t y).trans ?_
  show _ = ∑ s : Fin 4096, ∑ d : Fin 8, kLog m c (rowOf _ s) d
  refine Finset.sum_congr rfl fun s _ => Finset.sum_congr rfl fun d _ => congrArg (fun n => kLog m c n d) (congrArg (fun t => rowOf t s) (Fin.ext ?_))
  obtain ⟨-, -, -, -, e0, -⟩ := idx_moving t
  show t.val = win0_11.index t (0 : Fin 3) * 1 + 1 * (y 0).val
  have hy : (y 0).val < 1 := (y 0).isLt
  omega

end Cert.Spline

end

end
-- ==== Proof.Spline.KTail.lean ====
/-
  The whole kernel's run: its two results as functions of the arguments.
-/
module

public import proofs.«01_k».proof.Proof.Spline.KRun
public import Idealize.ShloMosaic.Lib.IdealHost

@[expose] public section

noncomputable section

namespace Cert.Spline

open Idealize.ShloMosaic hiding ix1 ix2 ix3 ix4 eq_ix1 eq_ix2 eq_ix3
open Idealize.ShloMosaic.ValueIdx Idealize.ShloMosaic.TcCoe Idealize.SL.Sem Cert.KernelIdeal Cert.KernelIdeal.Gen
open scoped BigOperators

variable (m : (ℓ : Loc nD τ sig) → Buf (Elt Ideal) ℓ) (c : Dev nD)

/-- The first result, row by coordinate. -/
def resOut (i : S262144x16.Idx) : EReal := kOut m c (ix2 (i 1) (i 0))

/-- The second result: every log-derivative, summed. -/
def resSum (_ : S_.Idx) : EReal := ∑ n : Fin 262144, ∑ d : Fin 8, kLog m c n d

/-- The first result after the lines that follow the kernel: its first array transposed. -/
theorem tail_out : Pipeline.afterTail₀ cfgs (dats m) 0 (V0 m) [hostOps1] c main_v12
    = transpose S262144x16 [1, 0] ((dats m 0 c).arrAt 10 cfg0.N : FVec Ideal S16x262144 .f32) transposes_S16x262144_S262144x16_1_0 := by
  unfold Pipeline.afterTail₀
  show StableHlo.after hostOps1 _ (Proc.devRef .tc main_v12) = _
  after_results
  exact congrArg (fun x => transpose S262144x16 [1, 0] x transposes_S16x262144_S262144x16_1_0)
    (Pipeline.withArrays_arr spec0 launch0.win.arr_inj c (V0 m c) (fun w => (dats m 0 c).arrAt w cfg0.N) 10)

/-- The second result after the lines that follow the kernel: its second array summed. -/
theorem tail_sum : Pipeline.afterTail₀ cfgs (dats m) 0 (V0 m) [hostOps1] c main_v13
    = Host.reduceAdd ((dats m 0 c).arrAt 11 cfg0.N : FVec Ideal S64x1x1 .f32) (constant (F := Ideal) S_ .f32 0x00000000#32)
        reducesTo_S64x1x1_S_d0_1_2 h_S_ := by
  unfold Pipeline.afterTail₀
  show StableHlo.after hostOps1 _ (Proc.devRef .tc main_v13) = _
  after_results
  exact congrArg (fun x => Host.reduceAdd x (constant (F := Ideal) S_ .f32 0x00000000#32) reducesTo_S64x1x1_S_d0_1_2 h_S_)
    (Pipeline.withArrays_arr spec0 launch0.win.arr_inj c (V0 m c) (fun w => (dats m 0 c).arrAt w cfg0.N) 11)

/-- Where the second array holds each point's sum. -/
def place : Fin 64 ≃ S64x1x1.Idx where
  toFun t := ix3 t 0 0
  invFun i := i 0
  left_inv _ := rfl
  right_inv i := by
    funext a
    match a with
    | ⟨0, _⟩ => rfl
    | ⟨1, _⟩ => exact Subsingleton.elim (α := Fin 1) _ _
    | ⟨2, _⟩ => exact Subsingleton.elim (α := Fin 1) _ _

/-- The points' sums together are the sum over all rows. -/
theorem sum_rows (f : Fin 262144 → EReal) :
    ∑ i : S64x1x1.Idx, ∑ s : Fin 4096, f (rowOf ⟨(i 0).val, (i 0).isLt.trans_eq points.symm⟩ s) = ∑ n : Fin 262144, f n := by
  rw [← Equiv.sum_comp place]
  refine Eq.trans ?_ (Equiv.sum_comp (finProdFinEquiv (m := 64) (n := 4096)) f)
  rw [Fintype.sum_prod_type]
  refine Finset.sum_congr rfl fun t _ => Finset.sum_congr rfl fun s _ => congrArg f (Fin.ext ?_)
  show t.val * 4096 + s.val = s.val + 4096 * t.val
  omega

variable (A : Args (m ((c : Thread nD τ).loc main_arg5)) (m ((c : Thread nD τ).loc main_arg7)))
include A

theorem final_out : Pipeline.afterTail₀ cfgs (dats m) 0 (V0 m) [hostOps1] c main_v12 = resOut m c := by
  rw [tail_out, arr_out m c A]
  funext i
  obtain ⟨n, r, rfl⟩ : ∃ (n : Fin 262144) (r : Fin 16), i = ix2 n r := ⟨i 0, i 1, eq_ix2 i⟩
  exact transpose_apply _ _ _ (ix2 n r) (ix2 r n) (fun b => by
    match b with
    | ⟨0, _⟩ => rfl
    | ⟨1, _⟩ => rfl)

theorem final_sum : Pipeline.afterTail₀ cfgs (dats m) 0 (V0 m) [hostOps1] c main_v13 = resSum m c := by
  rw [tail_sum, arr_sum m c A]
  funext j
  refine (hostReduceAdd_apply _ _ _ _ _).trans ((Ideal.hostReduceAdd_total _ (fun b => b.elim0) _ _ _).trans ?_)
  refine (congrArg (· + _) lit_zero).trans ((zero_add _).trans ?_)
  exact sum_rows fun n => ∑ d : Fin 8, kLog m c n d

omit c A
/-- The kernel's run, with its results as functions of the arguments and the arguments unchanged. -/
theorem kernel_run (ρ : Dev nD → PrngReg)
    (A : ∀ c : Dev nD, Args (m ((c : Thread nD τ).loc main_arg5)) (m ((c : Thread nD τ).loc main_arg7))) :
    θ_run defs (onTc (τ := τ) (main (F := Ideal))) ⟨m, fun _ => 0, ρ⟩ (fun r => ∀ c : Dev nD,
      (r.2.mem ((c : Thread nD τ).loc main_v12) = resOut m c ∧ r.2.mem ((c : Thread nD τ).loc main_v13) = resSum m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun _ h c => ⟨⟨
      ((h.1 c).2 main_v12 (Pipeline.mem_restRefs_of main_v12 (by decide) (by decide))).trans (final_out m c (A c)),
      ((h.1 c).2 main_v13 (Pipeline.mem_restRefs_of main_v13 (by decide) (by decide))).trans (final_sum m c (A c))⟩, h.2 c⟩)
    (θ_run_and (run_main m ρ) (unchanged m ρ))

end Cert.Spline

end

end
-- ==== Proof.Spline.RefFolds.lean ====
/-
  What the reference's folds compute, over any operand: a maximum of real numbers is a real number, a running sum is the sum of the
  entries up to a position, a count of the true entries of an initial segment, an "and" over an axis of one element, and a
  `take_along_axis` whose index is known.
-/
module

public import proofs.«01_k».proof.Proof.Gen.ReferenceIdeal.Read
public import proofs.«01_k».proof.Proof.Spline.Spec
public import Idealize.ShloMosaic.Lib.ValueIdxCore

@[expose] public section

noncomputable section

namespace Cert.Spline

open Idealize.ShloMosaic Idealize.ShloMosaic.ValueIdx Cert.ReferenceIdeal Cert.ReferenceIdeal.Gen
open scoped BigOperators

theorem red3 : S262144x8x10.Reduces [2] S262144x8 := by decide
theorem red4 : S262144x8x1x1.Reduces [3] S262144x8x1 := by decide

/-- The maximum from minus infinity of ten real numbers is a real number. -/
theorem max_real (y : S262144x8x10.Idx → EReal) (hy : ∀ i, ∃ r : ℝ, y i = (r : EReal)) (init : S_.Idx → EReal) (hi : ∀ i, init i = ⊥)
    (j : S262144x8.Idx) :
    ∃ r : ℝ, Host.reduce (FloatOps.maximumf (F := Ideal) (φ := .f32)) y init reducesTo_S262144x8x10_S262144x8_d2 h_S_ j = (r : EReal) := by
  have hc : (FloatOps.maximumf (F := Ideal) (φ := .f32)) = (max : EReal → EReal → EReal) := rfl
  rw [hc]
  have e := Host.reduce_eq_fold_single (max : EReal → EReal → EReal) y init reducesTo_S262144x8x10_S262144x8_d2 red3 h_S_ j
  rw [e, hi]
  refine ⟨_, (EReal.coe_toReal (ne_of_lt ?_) (ne_of_gt ?_)).symm⟩
  · rw [Finset.fold_max_lt]
    refine ⟨bot_lt_top, fun k _ => ?_⟩
    obtain ⟨r, hr⟩ := hy (red3.lift j k)
    exact lt_of_eq_of_lt hr (EReal.coe_lt_top r)
  · rw [Finset.lt_fold_max]
    obtain ⟨r, hr⟩ := hy (red3.lift j (0 : Fin 10))
    exact Or.inr ⟨(0 : Fin 10), Finset.mem_univ _, lt_of_lt_of_eq (EReal.bot_lt_coe r) hr.symm⟩

/-- Ten entries read through a window that ends at position `j` are the entries up to `j`. -/
theorem sum_window (f : Fin 10 → EReal) (j : Fin 10) :
    (∑ k : Fin 10, if h : 9 ≤ j.val + k.val then f ⟨j.val + k.val - 9, by omega⟩ else 0) = ∑ i : Fin 10, if i.val < j.val + 1 then f i else 0 := by
  fin_cases j <;> simp [Fin.sum_univ_succ, Fin.succ] <;> rfl

/-- A left fold of sums from an initial value. -/
theorem foldl_add {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

/-- The window's positions are its last coordinate. -/
def winEquiv : Fin 10 ≃ (⟨3, ![1, 1, 10]⟩ : Shape).Idx where
  toFun k := ix3 0 0 k
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

/-- The running sum along the last axis: entry `k` is the sum of the entries up to `k`. -/
theorem cumsum_apply (y : S262144x8x10.Idx → EReal) (init : S_.Idx → EReal) (hi : ∀ i, init i = 0)
    (h : S262144x8x10.ReduceWindows (![1, 1, 10] : Fin 3 → Nat) ![1, 1, 1] ![0, 0, 9] ![0, 0, 0] S262144x8x10) (hu : 0 < S_.numel)
    (n : Fin 262144) (d : Fin 8) (k : Fin 10) :
    Host.reduceWindowAdd (F := Ideal) (φ := .f32) ![1, 1, 10] ![1, 1, 1] ![0, 0, 9] ![0, 0, 0] y init h hu (ix3 n d k)
      = ∑ j : Fin 10, if j.val < k.val + 1 then y (ix3 n d j) else 0 := by
  rw [← sum_window (fun j => y (ix3 n d j)) k]
  show Host.reduceWindow (· + ·) ![1, 1, 10] ![1, 1, 1] ![0, 0, 9] ![0, 0, 0] y (fun _ : (⟨0, ![]⟩ : Shape).Idx => init _) h (by decide) (ix3 n d k) = _
  unfold Host.reduceWindow
  dsimp only
  rw [hi, foldl_add, zero_add, ← Fin.sum_univ_def]
  refine (Equiv.sum_comp (winEquiv.trans (⟨3, ![1, 1, 10]⟩ : Shape).rowMajor) _).symm.trans ?_
  refine Finset.sum_congr rfl fun q _ => ?_
  have hn := n.isLt
  have hd := d.isLt
  have hk := k.isLt
  have hq := q.isLt
  simp only [Equiv.trans_apply, Equiv.symm_apply_apply]
  by_cases hc : 9 ≤ k.val + q.val
  · rw [dif_pos hc, dif_pos]
    · refine congrArg y (funext fun a => Fin.ext ?_)
      match a with
      | ⟨0, _⟩ => show n.val * 1 + 0 - 0 = n.val; omega
      | ⟨1, _⟩ => show d.val * 1 + 0 - 0 = d.val; omega
      | ⟨2, _⟩ => show k.val * 1 + q.val - 9 = k.val + q.val - 9; omega
    · intro a
      match a with
      | ⟨0, _⟩ => show 0 ≤ n.val * 1 + 0 ∧ n.val * 1 + 0 - 0 < 262144; omega
      | ⟨1, _⟩ => show 0 ≤ d.val * 1 + 0 ∧ d.val * 1 + 0 - 0 < 8; omega
      | ⟨2, _⟩ => show 9 ≤ k.val * 1 + q.val ∧ k.val * 1 + q.val - 9 < 10; omega
  · rw [dif_neg hc, dif_neg]
    intro hin
    have h2 : 9 ≤ k.val * 1 + q.val := (hin 2).1
    omega

/-- The sum of the flags of an initial segment of ten is the segment's length. -/
theorem count_apply (y : S262144x8x10.Idx → BitVec 32) (init : S_.Idx → BitVec 32) (hi : ∀ i, init i = 0#32) (n : Fin 262144) (d : Fin 8)
    (i : Fin 10) (hy : ∀ k : Fin 10, y (ix3 n d k) = if k ≤ i then 1#32 else 0#32) :
    Host.reduce IntOp.addi y init reducesTo_S262144x8x10_S262144x8_d2 h_S_ (ix2 n d) = BitVec.ofNat 32 (i.val + 1) := by
  have e := Host.reduce_eq_fold_single (IntOp.addi : BitVec 32 → BitVec 32 → BitVec 32) y init reducesTo_S262144x8x10_S262144x8_d2 red3 h_S_ (ix2 n d)
  rw [e, hi]
  have hf : (y ∘ red3.lift (ix2 n d)) = fun k : Fin 10 => if k ≤ i then 1#32 else 0#32 := by
    funext k
    rw [← hy k]
    exact congrArg y (funext fun a => Fin.ext (by match a with | ⟨0, _⟩ => rfl | ⟨1, _⟩ => rfl | ⟨2, _⟩ => rfl))
  refine (congrArg (fun g => Finset.fold IntOp.addi 0#32 g (Finset.univ : Finset (Fin 10))) hf).trans ?_
  clear hy hf e
  revert i
  decide

/-- An "and" from true over an axis of one element is that element. -/
theorem and_apply (y : S262144x8x1x1.Idx → BitVec 1) (init : S_.Idx → BitVec 1) (hi : ∀ i, init i = 1#1) (n : Fin 262144) (d : Fin 8) :
    Host.reduce IntOp.andi y init reducesTo_S262144x8x1x1_S262144x8x1_d3 h_S_ (ix3 n d 0) = y (ix4 n d 0 0) := by
  have e := Host.reduce_eq_fold_single (IntOp.andi : BitVec 1 → BitVec 1 → BitVec 1) y init reducesTo_S262144x8x1x1_S262144x8x1_d3 red4 h_S_ (ix3 n d 0)
  rw [e, hi]
  have hf : (y ∘ red4.lift (ix3 n d 0)) = fun k : Fin 1 => y (ix4 n d 0 0) := by
    funext k
    exact congrArg y (funext fun a => Fin.ext (by
      match a with
      | ⟨0, _⟩ => rfl
      | ⟨1, _⟩ => rfl
      | ⟨2, _⟩ => rfl
      | ⟨3, _⟩ => exact Nat.lt_one_iff.1 k.isLt))
  refine (congrArg (fun g => Finset.fold IntOp.andi 1#1 g (Finset.univ : Finset (Fin 1))) hf).trans ?_
  generalize y (ix4 n d 0 0) = b
  revert b
  decide

/-- The dimension numbers of the reference's gathers along the last axis. -/
abbrev gd : GatherDims S262144x8x10 S262144x8x1x1 S262144x8x1 := gather_S262144x8x10_S262144x8x1x1_S262144x8x1_n_2_01_01_2_3_111

/-- The gather along the last axis reads the entry its start index names. -/
theorem gather_apply (y : S262144x8x10.Idx → EReal) (idx : S262144x8x1x1.Idx → BitVec 32) (n : Fin 262144) (d : Fin 8) (i : Fin 10)
    (hi : idx (ix4 n d 0 0) = BitVec.ofNat 32 i.val) :
    Host.gather gd y idx (ix3 n d 0) = y (ix3 n d i) := by
  unfold Host.gather
  refine congrArg y (funext fun a => Fin.ext ?_)
  match a with
  | ⟨0, _⟩ =>
    show gd.start (ix3 n d 0) idx 0 + gd.batchCoord (ix3 n d 0) 0 + gd.offCoord (ix3 n d 0) 0 = n.val
    rw [gd.start_batching _ _ _ (by decide), gd.offCoord_eq_zero _ _ (by decide)]
    unfold GatherDims.batchCoord
    rw [dif_pos (by decide), Nat.zero_add, Nat.add_zero]
    rfl
  | ⟨1, _⟩ =>
    show gd.start (ix3 n d 0) idx 1 + gd.batchCoord (ix3 n d 0) 1 + gd.offCoord (ix3 n d 0) 1 = d.val
    rw [gd.start_batching _ _ _ (by decide), gd.offCoord_eq_zero _ _ (by decide)]
    unfold GatherDims.batchCoord
    rw [dif_pos (by decide), Nat.zero_add, Nat.add_zero]
    rfl
  | ⟨2, _⟩ =>
    have hs : gd.siIdx (ix3 n d 0) ⟨0, by decide⟩ = ix4 n d 0 0 := by
      funext b
      match b with
      | ⟨0, _⟩ => rfl
      | ⟨1, _⟩ => rfl
      | ⟨2, _⟩ => rfl
      | ⟨3, _⟩ => rfl
    show gd.start (ix3 n d 0) idx 2 + gd.batchCoord (ix3 n d 0) 2 + gd.offCoord (ix3 n d 0) 2 = i.val
    rw [gd.batchCoord_eq_zero _ _ (by decide), gd.offCoord_eq_zero _ _ (by decide)]
    unfold GatherDims.start
    rw [dif_pos (by decide)]
    show min (idx (gd.siIdx (ix3 n d 0) ⟨0, _⟩)).toInt.toNat 9 + 0 + 0 = i.val
    rw [hs, hi]
    clear hs hi
    revert i
    decide

end Cert.Spline

end

end
-- ==== Proof.Spline.RefLogits.lean ====
/-
  The reference's layers read at an index: the hidden layer, the normalised weights of the bins, and the slopes.
-/
module

public import proofs.«01_k».proof.Proof.Spline.RefFolds
public import proofs.«01_k».proof.Proof.Spline.Layers

@[expose] public section

noncomputable section

namespace Cert.Spline

open Idealize.ShloMosaic Idealize.ShloMosaic.ValueIdx Cert.ReferenceIdeal Cert.ReferenceIdeal.Gen Cert.ReferenceIdeal.Read
open scoped BigOperators

variable (x0 : (⟨S262144x16, .f32⟩ : BufTy).Contents (Elt Ideal)) (x1 : (⟨S8x50, .f32⟩ : BufTy).Contents (Elt Ideal))
  (x2 : (⟨S50, .f32⟩ : BufTy).Contents (Elt Ideal)) (x3 : (⟨S50x50, .f32⟩ : BufTy).Contents (Elt Ideal))
  (x4 : (⟨S50, .f32⟩ : BufTy).Contents (Elt Ideal)) (x5 : (⟨S50x80, .f32⟩ : BufTy).Contents (Elt Ideal))
  (x6 : (⟨S80, .f32⟩ : BufTy).Contents (Elt Ideal)) (x7 : (⟨S50x80, .f32⟩ : BufTy).Contents (Elt Ideal))
  (x8 : (⟨S80, .f32⟩ : BufTy).Contents (Elt Ideal)) (x9 : (⟨S50x72, .f32⟩ : BufTy).Contents (Elt Ideal))
  (x10 : (⟨S72, .f32⟩ : BufTy).Contents (Elt Ideal))

/-- The first layer at row `n`. -/
theorem ref_h1 (h2 : ∀ i, x2 i = (0 : EReal)) (n : Fin 262144) (k : Fin 50) :
    val_main_v6 (F := Ideal) x0 x1 x2 (ix2 n k) = Ideal.tanh (∑ l : Fin 8, x0 (ix2 n (lo l)) * mat x1 l k) := by
  rw [val_main_v6_apply, val_main_v5_apply, val_main_v2_apply, val_main_v4_apply, val_main_v3_apply, h2]
  simp only [Ideal.hostUnary_tanh_def, Ideal.addf_def, add_zero, val_main_v0_apply]
  refine congrArg Ideal.tanh (Finset.sum_congr rfl fun l _ => congrArg₂ (· * ·) (congrArg x0 ?_) (congrArg x1 ?_))
  · funext a
    match a with
    | ⟨0, _⟩ => rfl
    | ⟨1, _⟩ => rfl
  · funext a
    match a with
    | ⟨0, _⟩ => rfl
    | ⟨1, _⟩ => rfl

/-- The hidden layer at row `n`. -/
theorem ref_h2 (h2 : ∀ i, x2 i = (0 : EReal)) (h4 : ∀ i, x4 i = (0 : EReal)) (n : Fin 262144) (j : Fin 50) :
    val_main_v11 (F := Ideal) x0 x1 x2 x3 x4 (ix2 n j) = hRow x0 x1 x3 n j := by
  rw [val_main_v11_apply, val_main_v10_apply, val_main_v7_apply, val_main_v9_apply, val_main_v8_apply, h4]
  simp only [Ideal.hostUnary_tanh_def, Ideal.addf_def, add_zero]
  refine congrArg Ideal.tanh (Finset.sum_congr rfl fun k _ => congrArg₂ (· * ·) (Eq.trans ?_ (ref_h1 x0 x1 x2 h2 n k)) (congrArg x3 ?_))
  · refine congrArg _ ?_
    funext a
    match a with
    | ⟨0, _⟩ => rfl
    | ⟨1, _⟩ => rfl
  · funext a
    match a with
    | ⟨0, _⟩ => rfl
    | ⟨1, _⟩ => rfl

/-- The width logits. -/
theorem ref_a (h2 : ∀ i, x2 i = (0 : EReal)) (h4 : ∀ i, x4 i = (0 : EReal)) (h6 : ∀ i, x6 i = (0 : EReal))
    (h5 : ∀ i, ∃ r : ℝ, x5 i = (r : EReal)) (n : Fin 262144) (d : Fin 8) (k : Fin 10) :
    val_main_v18 (F := Ideal) x0 x1 x2 x3 x4 x5 x6 (ix3 n d k) = (logit (hRow x0 x1 x3 n) (mat x5) (q80 d k) : EReal) := by
  have e : idx_main_v18 (ix3 n d k) = ix2 n (q80 d k) := by
    funext a
    have hn := n.isLt
    have hd := d.isLt
    have hk := k.isLt
    match a with
    | ⟨0, _⟩ => exact Fin.ext (show ((n.val * 8 + d.val) * 10 + k.val) / 80 = n.val by omega)
    | ⟨1, _⟩ => exact Fin.ext (show ((n.val * 8 + d.val) * 10 + k.val) % 80 = 10 * d.val + k.val by omega)
  rw [val_main_v18_apply, e, val_main_v17_apply, val_main_v16_apply, val_main_cst_apply, val_main_v15_apply, val_main_v12_apply,
    val_main_v14_apply, val_main_v13_apply, h6]
  simp only [Ideal.mulf_def, Ideal.addf_def, add_zero, Ideal.ofBits_def, lit_six]
  rw [← logit_scaled (hRow x0 x1 x3 n) (mat x5) (q80 d k) (fun j => (hidE_real _ _ _ j).imp fun _ h => h.1) (fun j => h5 _)]
  refine congrArg (_ * ·) (Finset.sum_congr rfl fun j _ => congrArg₂ (· * ·) (Eq.trans ?_ (ref_h2 x0 x1 x2 x3 x4 h2 h4 n j)) (congrArg x5 ?_))
  · refine congrArg _ ?_
    funext a
    match a with
    | ⟨0, _⟩ => rfl
    | ⟨1, _⟩ => rfl
  · funext a
    match a with
    | ⟨0, _⟩ => rfl
    | ⟨1, _⟩ => rfl

/-- The normalised widths: each weight over the sum of the ten. -/
theorem ref_w (h2 : ∀ i, x2 i = (0 : EReal)) (h4 : ∀ i, x4 i = (0 : EReal)) (h6 : ∀ i, x6 i = (0 : EReal))
    (h5 : ∀ i, ∃ r : ℝ, x5 i = (r : EReal)) (n : Fin 262144) (d : Fin 8) (k : Fin 10) :
    val_main_v29 (F := Ideal) x0 x1 x2 x3 x4 x5 x6 (ix3 n d k)
      = ((wt (hRow x0 x1 x3 n) (mat x5) d k / tot (wt (hRow x0 x1 x3 n) (mat x5) d) : ℝ) : EReal) := by
  have ha := ref_a x0 x1 x2 x3 x4 x5 x6 h2 h4 h6 h5
  obtain ⟨M, hM⟩ := max_real (val_main_v18 (F := Ideal) x0 x1 x2 x3 x4 x5 x6) (fun i => ⟨_, (congrArg _ (eq_ix3 i)).trans (ha (i 0) (i 1) (i 2))⟩)
    (val_main_cst_0 (F := Ideal)) (fun i => lit_bot) (ix2 n d)
  have hv : ∀ j : Fin 10, val_main_v25 (F := Ideal) x0 x1 x2 x3 x4 x5 x6 (ix3 n d j)
      = Ideal.exp ((logit (hRow x0 x1 x3 n) (mat x5) (q80 d j) : EReal) - (M : EReal)) := by
    intro j
    rw [val_main_v25_apply, val_main_v24_apply, ha, val_main_v23_apply, val_main_v22_apply, val_main_v21_apply, val_main_v20_apply,
      val_main_cst_1_apply]
    simp only [Ideal.hostUnary_exp_def, Ideal.subf_def, Ideal.maximumf_def, Ideal.ofBits_def, lit_bot, bot_le, max_eq_right]
    refine congrArg (fun t => Ideal.exp (_ - t)) (Eq.trans ?_ hM)
    show val_main_v19 (F := Ideal) x0 x1 x2 x3 x4 x5 x6 _ = val_main_v19 (F := Ideal) x0 x1 x2 x3 x4 x5 x6 _
    refine congrArg _ ?_
    funext a
    match a with
    | ⟨0, _⟩ => rfl
    | ⟨1, _⟩ => rfl
  have e : ∀ j : Fin 10, idx_main_v26 (ix2 n d) j = ix3 n d j := by
    intro j
    funext a
    match a with
    | ⟨0, _⟩ => rfl
    | ⟨1, _⟩ => rfl
    | ⟨2, _⟩ => rfl
  have e' : idx_main_v27 (idx_main_v28 (ix3 n d k)) = ix2 n d := by
    funext a
    match a with
    | ⟨0, _⟩ => rfl
    | ⟨1, _⟩ => rfl
  rw [val_main_v29_apply, val_main_v28_apply, val_main_v27_apply, e', val_main_v26_apply, val_main_cst_2_apply]
  simp only [Ideal.hostDivf_def, Ideal.ofBits_def, lit_zero, e, hv]
  exact softmax_eq (fun j => logit (hRow x0 x1 x3 n) (mat x5) (q80 d j)) M k

/-- The height logits. -/
theorem ref_b (h2 : ∀ i, x2 i = (0 : EReal)) (h4 : ∀ i, x4 i = (0 : EReal)) (h8 : ∀ i, x8 i = (0 : EReal))
    (h7 : ∀ i, ∃ r : ℝ, x7 i = (r : EReal)) (n : Fin 262144) (d : Fin 8) (k : Fin 10) :
    val_main_v36 (F := Ideal) x0 x1 x2 x3 x4 x7 x8 (ix3 n d k) = (logit (hRow x0 x1 x3 n) (mat x7) (q80 d k) : EReal) := by
  have e : idx_main_v36 (ix3 n d k) = ix2 n (q80 d k) := by
    funext a
    have hn := n.isLt
    have hd := d.isLt
    have hk := k.isLt
    match a with
    | ⟨0, _⟩ => exact Fin.ext (show ((n.val * 8 + d.val) * 10 + k.val) / 80 = n.val by omega)
    | ⟨1, _⟩ => exact Fin.ext (show ((n.val * 8 + d.val) * 10 + k.val) % 80 = 10 * d.val + k.val by omega)
  rw [val_main_v36_apply, e, val_main_v35_apply, val_main_v34_apply, val_main_cst_3_apply, val_main_v33_apply, val_main_v30_apply,
    val_main_v32_apply, val_main_v31_apply, h8]
  simp only [Ideal.mulf_def, Ideal.addf_def, add_zero, Ideal.ofBits_def, lit_six]
  rw [← logit_scaled (hRow x0 x1 x3 n) (mat x7) (q80 d k) (fun j => (hidE_real _ _ _ j).imp fun _ h => h.1) (fun j => h7 _)]
  refine congrArg (_ * ·) (Finset.sum_congr rfl fun j _ => congrArg₂ (· * ·) (Eq.trans ?_ (ref_h2 x0 x1 x2 x3 x4 h2 h4 n j)) (congrArg x7 ?_))
  · refine congrArg _ ?_
    funext a
    match a with
    | ⟨0, _⟩ => rfl
    | ⟨1, _⟩ => rfl
  · funext a
    match a with
    | ⟨0, _⟩ => rfl
    | ⟨1, _⟩ => rfl

/-- The normalised heights. -/
theorem ref_hh (h2 : ∀ i, x2 i = (0 : EReal)) (h4 : ∀ i, x4 i = (0 : EReal)) (h8 : ∀ i, x8 i = (0 : EReal))
    (h7 : ∀ i, ∃ r : ℝ, x7 i = (r : EReal)) (n : Fin 262144) (d : Fin 8) (k : Fin 10) :
    val_main_v47 (F := Ideal) x0 x1 x2 x3 x4 x7 x8 (ix3 n d k)
      = ((wt (hRow x0 x1 x3 n) (mat x7) d k / tot (wt (hRow x0 x1 x3 n) (mat x7) d) : ℝ) : EReal) := by
  have ha := ref_b x0 x1 x2 x3 x4 x7 x8 h2 h4 h8 h7
  obtain ⟨M, hM⟩ := max_real (val_main_v36 (F := Ideal) x0 x1 x2 x3 x4 x7 x8) (fun i => ⟨_, (congrArg _ (eq_ix3 i)).trans (ha (i 0) (i 1) (i 2))⟩)
    (val_main_cst_4 (F := Ideal)) (fun i => lit_bot) (ix2 n d)
  have hv : ∀ j : Fin 10, val_main_v43 (F := Ideal) x0 x1 x2 x3 x4 x7 x8 (ix3 n d j)
      = Ideal.exp ((logit (hRow x0 x1 x3 n) (mat x7) (q80 d j) : EReal) - (M : EReal)) := by
    intro j
    rw [val_main_v43_apply, val_main_v42_apply, ha, val_main_v41_apply, val_main_v40_apply, val_main_v39_apply, val_main_v38_apply,
      val_main_cst_5_apply]
    simp only [Ideal.hostUnary_exp_def, Ideal.subf_def, Ideal.maximumf_def, Ideal.ofBits_def, lit_bot, bot_le, max_eq_right]
    refine congrArg (fun t => Ideal.exp (_ - t)) (Eq.trans ?_ hM)
    show val_main_v37 (F := Ideal) x0 x1 x2 x3 x4 x7 x8 _ = val_main_v37 (F := Ideal) x0 x1 x2 x3 x4 x7 x8 _
    refine congrArg _ ?_
    funext a
    match a with
    | ⟨0, _⟩ => rfl
    | ⟨1, _⟩ => rfl
  have e : ∀ j : Fin 10, idx_main_v44 (ix2 n d) j = ix3 n d j := by
    intro j
    funext a
    match a with
    | ⟨0, _⟩ => rfl
    | ⟨1, _⟩ => rfl
    | ⟨2, _⟩ => rfl
  have e' : idx_main_v45 (idx_main_v46 (ix3 n d k)) = ix2 n d := by
    funext a
    match a with
    | ⟨0, _⟩ => rfl
    | ⟨1, _⟩ => rfl
  rw [val_main_v47_apply, val_main_v46_apply, val_main_v45_apply, e', val_main_v44_apply, val_main_cst_6_apply]
  simp only [Ideal.hostDivf_def, Ideal.ofBits_def, lit_zero, e, hv]
  exact softmax_eq (fun j => logit (hRow x0 x1 x3 n) (mat x7) (q80 d j)) M k

/-- The slopes at the inner edges. -/
theorem ref_s (h2 : ∀ i, x2 i = (0 : EReal)) (h4 : ∀ i, x4 i = (0 : EReal)) (h10 : ∀ i, x10 i = (0 : EReal)) (n : Fin 262144) (d : Fin 8)
    (p : Fin 9) : val_main_v53 (F := Ideal) x0 x1 x2 x3 x4 x9 x10 (ix3 n d p) = slope (hRow x0 x1 x3 n) (mat x9) d p := by
  have e : idx_main_v52 (ix3 n d p) = ix2 n (q72 d p) := by
    funext a
    have hn := n.isLt
    have hd := d.isLt
    have hp := p.isLt
    match a with
    | ⟨0, _⟩ => exact Fin.ext (show ((n.val * 8 + d.val) * 9 + p.val) / 72 = n.val by omega)
    | ⟨1, _⟩ => exact Fin.ext (show ((n.val * 8 + d.val) * 9 + p.val) % 72 = 9 * d.val + p.val by omega)
  have hr : val_main_v52 (F := Ideal) x0 x1 x2 x3 x4 x9 x10 (ix3 n d p) = ∑ j : Fin 50, hRow x0 x1 x3 n j * mat x9 j (q72 d p) := by
    rw [val_main_v52_apply, e, val_main_v51_apply, val_main_v48_apply, val_main_v50_apply, val_main_v49_apply, h10]
    simp only [Ideal.addf_def, add_zero]
    refine Finset.sum_congr rfl fun j _ => congrArg₂ (· * ·) (Eq.trans ?_ (ref_h2 x0 x1 x2 x3 x4 h2 h4 n j)) (congrArg x9 ?_)
    · refine congrArg _ ?_
      funext a
      match a with
      | ⟨0, _⟩ => rfl
      | ⟨1, _⟩ => rfl
    · funext a
      match a with
      | ⟨0, _⟩ => rfl
      | ⟨1, _⟩ => rfl
  rw [val_main_v53_apply, val_main_call0_v4_apply, val_main_call0_v11_apply, val_main_call0_v10_apply, val_main_call0_v9_apply,
    val_main_call0_v8_apply, val_main_call0_v7_apply, val_main_call0_v3_apply, val_main_call0_v1_apply, val_main_call0_v0_apply,
    val_main_call0_v2_apply, val_main_call0_cst_apply, hr]
  have hc : ∀ y : EReal, FloatOps.cmpf (F := Ideal) (φ := .f32) .une y y = 0#1 := cmp_une_self
  rw [hc, select_zero]
  simp only [Ideal.ofBits_def, lit_zero, Ideal.subf_def, sub_zero, Ideal.addf_def, Ideal.maximumf_def, Ideal.hostUnary_exp_def,
    Ideal.hostUnary_log1p_def]
  exact softplus_eq _

end Cert.Spline

end

end
-- ==== Proof.Spline.RefKnots.lean ====
/-
  The reference's edges, bin lengths and slope table read at an index.
-/
module

public import proofs.«01_k».proof.Proof.Spline.RefLogits
public import Idealize.ShloMosaic.Lib.Pipeline.Value

@[expose] public section

noncomputable section

namespace Cert.Spline

open Idealize.ShloMosaic Idealize.ShloMosaic.ValueIdx Cert.ReferenceIdeal Cert.ReferenceIdeal.Gen Cert.ReferenceIdeal.Read
open scoped BigOperators

/-- What the values are read under: the biases are zero, the width and height matrices hold real numbers. -/
structure Dom (x2 : (⟨S50, .f32⟩ : BufTy).Contents (Elt Ideal)) (x4 : (⟨S50, .f32⟩ : BufTy).Contents (Elt Ideal))
    (x5 : (⟨S50x80, .f32⟩ : BufTy).Contents (Elt Ideal)) (x6 : (⟨S80, .f32⟩ : BufTy).Contents (Elt Ideal))
    (x7 : (⟨S50x80, .f32⟩ : BufTy).Contents (Elt Ideal)) (x8 : (⟨S80, .f32⟩ : BufTy).Contents (Elt Ideal))
    (x10 : (⟨S72, .f32⟩ : BufTy).Contents (Elt Ideal)) : Prop where
  h2 : ∀ i, x2 i = (0 : EReal)
  h4 : ∀ i, x4 i = (0 : EReal)
  h5 : ∀ i, ∃ r : ℝ, x5 i = (r : EReal)
  h6 : ∀ i, x6 i = (0 : EReal)
  h7 : ∀ i, ∃ r : ℝ, x7 i = (r : EReal)
  h8 : ∀ i, x8 i = (0 : EReal)
  h10 : ∀ i, x10 i = (0 : EReal)

variable (x0 : (⟨S262144x16, .f32⟩ : BufTy).Contents (Elt Ideal)) (x1 : (⟨S8x50, .f32⟩ : BufTy).Contents (Elt Ideal))
  (x2 : (⟨S50, .f32⟩ : BufTy).Contents (Elt Ideal)) (x3 : (⟨S50x50, .f32⟩ : BufTy).Contents (Elt Ideal))
  (x4 : (⟨S50, .f32⟩ : BufTy).Contents (Elt Ideal)) (x5 : (⟨S50x80, .f32⟩ : BufTy).Contents (Elt Ideal))
  (x6 : (⟨S80, .f32⟩ : BufTy).Contents (Elt Ideal)) (x7 : (⟨S50x80, .f32⟩ : BufTy).Contents (Elt Ideal))
  (x8 : (⟨S80, .f32⟩ : BufTy).Contents (Elt Ideal)) (x9 : (⟨S50x72, .f32⟩ : BufTy).Contents (Elt Ideal))
  (x10 : (⟨S72, .f32⟩ : BufTy).Contents (Elt Ideal))

/-- The ten weights of the widths, of coordinate `d` of row `n`. -/
abbrev EW (n : Fin 262144) (d : Fin 8) : Fin 10 → ℝ := wt (hRow x0 x1 x3 n) (mat x5) d
/-- The ten weights of the heights. -/
abbrev EH (n : Fin 262144) (d : Fin 8) : Fin 10 → ℝ := wt (hRow x0 x1 x3 n) (mat x7) d
/-- The nine inner slopes. -/
abbrev SL (n : Fin 262144) (d : Fin 8) : Fin 9 → EReal := slope (hRow x0 x1 x3 n) (mat x9) d

/-- The first entries of the normalised weights add up to the normalised sum. -/
theorem cum_div (E : Fin 10 → ℝ) (k : ℕ) :
    (∑ j : Fin 10, if j.val < k then ((E j / tot E : ℝ) : EReal) else 0) = ((cum E k / tot E : ℝ) : EReal) := by
  unfold cum
  rw [Finset.sum_div, coe_sum]
  refine Finset.sum_congr rfl fun j _ => ?_
  split_ifs <;> simp

/-- An edge from the running sum. -/
theorem knot_coe (E : Fin 10 → ℝ) (k : ℕ) :
    ((-3 : ℝ) : EReal) + ((6 : ℝ) : EReal) * ((cum E k / tot E : ℝ) : EReal) = (knot E k : EReal) := by
  unfold knot
  rw [EReal.coe_add, EReal.coe_mul]

/-- A concatenation of a one-wide piece and a ten-wide one, read at its entries. -/
theorem cat11 (y : S262144x8x1.Idx → EReal) (z : S262144x8x10.Idx → EReal) (n : Fin 262144) (d : Fin 8) (k : Fin 11) (f : ℕ → EReal)
    (hy : y (ix3 n d 0) = f 0) (hz : ∀ p : Fin 10, z (ix3 n d p) = f (p.val + 1)) :
    concatenate S262144x8x11 2 [⟨S262144x8x1, y⟩, ⟨S262144x8x10, z⟩] concatenates_S262144x8x1_S262144x8x10_S262144x8x11_d2 (ix3 n d k)
      = f k.val := by
  by_cases h : k.val = 0
  · rw [h, ← hy]
    refine concatenate_apply_piece (t := S262144x8x11) 2 _ _ _ 0 (by exact Nat.zero_lt_succ _) S262144x8x1 y rfl rfl 0 rfl _ (fun b hb => ?_) ?_
    · match b with
      | ⟨0, _⟩ => rfl
      | ⟨1, _⟩ => rfl
      | ⟨2, _⟩ => exact absurd rfl hb
    · exact h.symm
  · have hk := k.isLt
    have e : f k.val = z (ix3 n d ⟨k.val - 1, by omega⟩) := by
      rw [hz]
      exact congrArg f (show k.val = k.val - 1 + 1 by omega)
    rw [e]
    refine concatenate_apply_piece (t := S262144x8x11) 2 _ _ _ 1 (by exact Nat.succ_lt_succ (Nat.zero_lt_succ _)) S262144x8x10 z rfl rfl 1 rfl _ (fun b hb => ?_) ?_
    · match b with
      | ⟨0, _⟩ => rfl
      | ⟨1, _⟩ => rfl
      | ⟨2, _⟩ => exact absurd rfl hb
    · exact (show 1 + (k.val - 1) = k.val by omega)

variable {x0 x1 x2 x3 x4 x5 x6 x7 x8 x9 x10}
variable (H : Dom x2 x4 x5 x6 x7 x8 x10)
include H

/-- The edges along the first axis. -/
theorem ref_knot_w (n : Fin 262144) (d : Fin 8) (k : Fin 11) :
    val_main_v60 (F := Ideal) x0 x1 x2 x3 x4 x5 x6 (ix3 n d k) = (knot (EW x0 x1 x3 x5 n d) k.val : EReal) := by
  unfold val_main_v60
  refine cat11 _ _ n d k (fun k => (knot (EW x0 x1 x3 x5 n d) k : EReal)) ?_ (fun p => ?_)
  · rw [val_main_v54_apply, val_main_cst_7_apply, knot_zero]
    exact lit_neg_three
  · have hc : val_main_v55 (F := Ideal) x0 x1 x2 x3 x4 x5 x6 (ix3 n d p)
        = ((cum (EW x0 x1 x3 x5 n d) (p.val + 1) / tot (EW x0 x1 x3 x5 n d) : ℝ) : EReal) := by
      refine (cumsum_apply _ _ (fun i => ?_) _ _ n d p).trans ?_
      · exact lit_zero
      · simp only [ref_w x0 x1 x2 x3 x4 x5 x6 H.h2 H.h4 H.h6 H.h5]
        exact cum_div _ _
    rw [val_main_v59_apply, val_main_v58_apply, val_main_v57_apply, val_main_v56_apply, val_main_cst_9_apply, val_main_cst_8_apply, hc]
    simp only [Ideal.addf_def, Ideal.mulf_def, Ideal.ofBits_def, lit_neg_three, lit_six]
    exact knot_coe _ _

/-- The edges along the second axis. -/
theorem ref_knot_h (n : Fin 262144) (d : Fin 8) (k : Fin 11) :
    val_main_v67 (F := Ideal) x0 x1 x2 x3 x4 x7 x8 (ix3 n d k) = (knot (EH x0 x1 x3 x7 n d) k.val : EReal) := by
  unfold val_main_v67
  refine cat11 _ _ n d k (fun k => (knot (EH x0 x1 x3 x7 n d) k : EReal)) ?_ (fun p => ?_)
  · rw [val_main_v61_apply, val_main_cst_10_apply, knot_zero]
    exact lit_neg_three
  · have hc : val_main_v62 (F := Ideal) x0 x1 x2 x3 x4 x7 x8 (ix3 n d p)
        = ((cum (EH x0 x1 x3 x7 n d) (p.val + 1) / tot (EH x0 x1 x3 x7 n d) : ℝ) : EReal) := by
      refine (cumsum_apply _ _ (fun i => ?_) _ _ n d p).trans ?_
      · exact lit_zero
      · simp only [ref_hh x0 x1 x2 x3 x4 x7 x8 H.h2 H.h4 H.h8 H.h7]
        exact cum_div _ _
    rw [val_main_v66_apply, val_main_v65_apply, val_main_v64_apply, val_main_v63_apply, val_main_cst_12_apply, val_main_cst_11_apply, hc]
    simp only [Ideal.addf_def, Ideal.mulf_def, Ideal.ofBits_def, lit_neg_three, lit_six]
    exact knot_coe _ _

/-- The left edges, along the first axis. -/
theorem ref_lo_w (n : Fin 262144) (d : Fin 8) (k : Fin 10) (i : S262144x8x11.Idx) (hi : i = ix3 n d ⟨k.val, by omega⟩) :
    val_main_v60 (F := Ideal) x0 x1 x2 x3 x4 x5 x6 i = (knot (EW x0 x1 x3 x5 n d) k.val : EReal) := by
  rw [hi]
  exact ref_knot_w H n d ⟨k.val, by omega⟩

/-- The right edges, along the first axis. -/
theorem ref_hi_w (n : Fin 262144) (d : Fin 8) (k : Fin 10) (i : S262144x8x11.Idx) (hi : i = ix3 n d ⟨k.val + 1, by omega⟩) :
    val_main_v60 (F := Ideal) x0 x1 x2 x3 x4 x5 x6 i = (knot (EW x0 x1 x3 x5 n d) (k.val + 1) : EReal) := by
  rw [hi]
  exact ref_knot_w H n d ⟨k.val + 1, by omega⟩

/-- The left edges, along the second axis. -/
theorem ref_lo_h (n : Fin 262144) (d : Fin 8) (k : Fin 10) (i : S262144x8x11.Idx) (hi : i = ix3 n d ⟨k.val, by omega⟩) :
    val_main_v67 (F := Ideal) x0 x1 x2 x3 x4 x7 x8 i = (knot (EH x0 x1 x3 x7 n d) k.val : EReal) := by
  rw [hi]
  exact ref_knot_h H n d ⟨k.val, by omega⟩

/-- The right edges, along the second axis. -/
theorem ref_hi_h (n : Fin 262144) (d : Fin 8) (k : Fin 10) (i : S262144x8x11.Idx) (hi : i = ix3 n d ⟨k.val + 1, by omega⟩) :
    val_main_v67 (F := Ideal) x0 x1 x2 x3 x4 x7 x8 i = (knot (EH x0 x1 x3 x7 n d) (k.val + 1) : EReal) := by
  rw [hi]
  exact ref_knot_h H n d ⟨k.val + 1, by omega⟩

/-- The bin lengths along the first axis. -/
theorem ref_width_w (n : Fin 262144) (d : Fin 8) (k : Fin 10) :
    val_main_v73 (F := Ideal) x0 x1 x2 x3 x4 x5 x6 (ix3 n d k) = (width (EW x0 x1 x3 x5 n d) k : EReal) := by
  rw [val_main_v73_apply, val_main_v71_apply, val_main_v72_apply, ← knot_succ, EReal.coe_sub, Ideal.subf_def]
  refine congrArg₂ (· - ·) (ref_hi_w H n d k _ ?_) (ref_lo_w H n d k _ ?_)
  · funext a
    match a with
    | ⟨0, _⟩ => rfl
    | ⟨1, _⟩ => rfl
    | ⟨2, _⟩ => exact Fin.ext (Nat.add_comm 1 k.val)
  · funext a
    match a with
    | ⟨0, _⟩ => rfl
    | ⟨1, _⟩ => rfl
    | ⟨2, _⟩ => rfl

/-- The bin lengths along the second axis. -/
theorem ref_width_h (n : Fin 262144) (d : Fin 8) (k : Fin 10) :
    val_main_v76 (F := Ideal) x0 x1 x2 x3 x4 x7 x8 (ix3 n d k) = (width (EH x0 x1 x3 x7 n d) k : EReal) := by
  rw [val_main_v76_apply, val_main_v74_apply, val_main_v75_apply, ← knot_succ, EReal.coe_sub, Ideal.subf_def]
  refine congrArg₂ (· - ·) (ref_hi_h H n d k _ ?_) (ref_lo_h H n d k _ ?_)
  · funext a
    match a with
    | ⟨0, _⟩ => rfl
    | ⟨1, _⟩ => rfl
    | ⟨2, _⟩ => exact Fin.ext (Nat.add_comm 1 k.val)
  · funext a
    match a with
    | ⟨0, _⟩ => rfl
    | ⟨1, _⟩ => rfl
    | ⟨2, _⟩ => rfl

/-- The slope table: one at both ends, the inner slopes between. -/
theorem ref_slopes (n : Fin 262144) (d : Fin 8) (k : Fin 11) :
    val_main_v70 (F := Ideal) x0 x1 x2 x3 x4 x9 x10 (ix3 n d k)
      = if h : 0 < k.val ∧ k.val < 10 then SL x0 x1 x3 x9 n d ⟨k.val - 1, by omega⟩ else 1 := by
  unfold val_main_v70
  have hk := k.isLt
  have hone : (((1 : ℝ) : EReal)) = 1 := EReal.coe_one
  by_cases h0 : k.val = 0
  · rw [dif_neg (by omega)]
    refine (concatenate_apply_piece (t := S262144x8x11) 2 _ _ _ 0 (by exact Nat.zero_lt_succ _) S262144x8x1 _ rfl rfl 0 rfl (ix3 n d 0) (fun b hb => ?_) (by exact h0.symm)).trans ?_
    · match b with
      | ⟨0, _⟩ => rfl
      | ⟨1, _⟩ => rfl
      | ⟨2, _⟩ => exact absurd rfl hb
    · exact lit_one.trans hone
  · by_cases h1 : k.val < 10
    · rw [dif_pos ⟨by omega, h1⟩]
      refine (concatenate_apply_piece (t := S262144x8x11) 2 _ _ _ 1 (by exact Nat.succ_lt_succ (Nat.zero_lt_succ _)) S262144x8x9 _ rfl rfl 1 rfl (ix3 n d ⟨k.val - 1, by omega⟩) (fun b hb => ?_)
        (by exact (show 1 + (k.val - 1) = k.val by omega))).trans ?_
      · match b with
        | ⟨0, _⟩ => rfl
        | ⟨1, _⟩ => rfl
        | ⟨2, _⟩ => exact absurd rfl hb
      · exact ref_s x0 x1 x2 x3 x4 x9 x10 H.h2 H.h4 H.h10 n d _
    · rw [dif_neg (by omega)]
      refine (concatenate_apply_piece (t := S262144x8x11) 2 _ _ _ 2 (by exact Nat.succ_lt_succ (Nat.succ_lt_succ (Nat.zero_lt_succ _))) S262144x8x1 _ rfl rfl 10 rfl (ix3 n d 0) (fun b hb => ?_)
        (by exact (show 10 + 0 = k.val by omega))).trans ?_
      · match b with
        | ⟨0, _⟩ => rfl
        | ⟨1, _⟩ => rfl
        | ⟨2, _⟩ => exact absurd rfl hb
      · exact lit_one.trans hone

end Cert.Spline

end

end
-- ==== Proof.Spline.RefBin.lean ====
/-
  The reference's bin and what it reads there: the count of edges at or below the point, and the six look-ups.
-/
module

public import proofs.«01_k».proof.Proof.Spline.RefKnots

@[expose] public section

noncomputable section

namespace Cert.Spline

open Idealize.ShloMosaic Idealize.ShloMosaic.ValueIdx Cert.ReferenceIdeal Cert.ReferenceIdeal.Gen Cert.ReferenceIdeal.Read
open scoped BigOperators

variable (x0 : (⟨S262144x16, .f32⟩ : BufTy).Contents (Elt Ideal)) (x1 : (⟨S8x50, .f32⟩ : BufTy).Contents (Elt Ideal))
  (x2 : (⟨S50, .f32⟩ : BufTy).Contents (Elt Ideal)) (x3 : (⟨S50x50, .f32⟩ : BufTy).Contents (Elt Ideal))
  (x4 : (⟨S50, .f32⟩ : BufTy).Contents (Elt Ideal)) (x5 : (⟨S50x80, .f32⟩ : BufTy).Contents (Elt Ideal))
  (x6 : (⟨S80, .f32⟩ : BufTy).Contents (Elt Ideal)) (x7 : (⟨S50x80, .f32⟩ : BufTy).Contents (Elt Ideal))
  (x8 : (⟨S80, .f32⟩ : BufTy).Contents (Elt Ideal)) (x9 : (⟨S50x72, .f32⟩ : BufTy).Contents (Elt Ideal))
  (x10 : (⟨S72, .f32⟩ : BufTy).Contents (Elt Ideal))

/-- The clipped point of coordinate `d` of row `n`. -/
abbrev CL (n : Fin 262144) (d : Fin 8) : ℝ := clipR (x0 (ix2 n (hi d)))

/-- The bin it falls in. -/
abbrev BI (n : Fin 262144) (d : Fin 8) : Fin 10 := bin (EW x0 x1 x3 x5 n d) (CL x0 n d)

/-- Clamping a bin's number to `0 … 9` leaves it. -/
theorem clamp_bin (i : Fin 10) :
    IntOp.minsi 9#32 (IntOp.maxsi 0#32 (IntOp.subi (BitVec.ofNat 32 (i.val + 1)) 1#32)) = BitVec.ofNat 32 i.val := by
  revert i
  decide

/-- A bin's number is not negative, so the look-up does not wrap it. -/
theorem wrap_bin (i : Fin 10) :
    Scalar.select (IntOp.cmpi .slt (BitVec.ofNat 32 i.val) 0#32) (IntOp.addi (BitVec.ofNat 32 i.val) 10#32) (BitVec.ofNat 32 i.val)
      = BitVec.ofNat 32 i.val := by
  revert i
  decide

/-- A bin's number is in range, so the look-up does not fill. -/
theorem range_bin (i : Fin 10) :
    IntOp.andi (IntOp.cmpi .sge (BitVec.ofNat 32 i.val) 0#32) (IntOp.cmpi .sle (BitVec.ofNat 32 i.val) 9#32) = 1#1 := by
  revert i
  decide

/-- The coordinate the reference transforms. -/
theorem ref_u (n : Fin 262144) (d : Fin 8) : val_main_v1 (F := Ideal) x0 (ix2 n d) = x0 (ix2 n (hi d)) := by
  rw [val_main_v1_apply]
  refine congrArg x0 ?_
  funext a
  match a with
  | ⟨0, _⟩ => rfl
  | ⟨1, _⟩ => rfl

/-- Clipping the coordinate. -/
theorem ref_clip (n : Fin 262144) (d : Fin 8) : val_main_v82 (F := Ideal) x0 (ix2 n d) = (CL x0 n d : EReal) := by
  rw [val_main_v82_apply, val_main_call3_v4_apply, val_main_call3_v3_apply, val_main_cst_18_apply, val_main_call3_v2_apply,
    val_main_call3_v1_apply, val_main_call3_v0_apply, val_main_cst_17_apply, ref_u]
  simp only [Ideal.minimumf_def, Ideal.maximumf_def, Ideal.ofBits_def, lit_three, lit_neg_three]
  exact clip_coe _

variable {x0 x1 x2 x3 x4 x5 x6 x7 x8 x9 x10}
variable (H : Dom x2 x4 x5 x6 x7 x8 x10)
include H

/-- Which edges are at or below the point. -/
theorem ref_ge (n : Fin 262144) (d : Fin 8) (k : Fin 10) :
    val_main_v87 (F := Ideal) x0 x1 x2 x3 x4 x5 x6 (ix3 n d k) = if k ≤ BI x0 x1 x3 x5 n d then 1#32 else 0#32 := by
  have e0 : val_main_v85 (F := Ideal) x0 (ix3 n d k) = (CL x0 n d : EReal) := by
    rw [val_main_v85_apply, val_main_v83_apply, ← ref_clip]
    refine congrArg _ ?_
    funext a
    match a with
    | ⟨0, _⟩ => rfl
    | ⟨1, _⟩ => rfl
  have e1 : val_main_v84 (F := Ideal) x0 x1 x2 x3 x4 x5 x6 (ix3 n d k) = (knot (EW x0 x1 x3 x5 n d) k.val : EReal) := by
    rw [val_main_v84_apply]
    refine ref_lo_w H n d k _ ?_
    funext a
    match a with
    | ⟨0, _⟩ => rfl
    | ⟨1, _⟩ => rfl
    | ⟨2, _⟩ => rfl
  have hb := bin_spec (EW x0 x1 x3 x5 n d) (wt_pos _ _ _) (CL x0 n d) (clipR_ge _) k
  rw [val_main_v87_apply, val_main_v86_apply, e0, e1]
  have hc : FloatOps.cmpf (F := Ideal) (φ := .f32) .oge (CL x0 n d : EReal) (knot (EW x0 x1 x3 x5 n d) k.val : EReal)
      = if (knot (EW x0 x1 x3 x5 n d) k.val : EReal) ≤ (CL x0 n d : EReal) then 1#1 else 0#1 := cmp_oge _ _
  rw [hc]
  by_cases h : k ≤ BI x0 x1 x3 x5 n d
  · rw [if_pos h, if_pos (EReal.coe_le_coe_iff.2 (hb.2 h))]
    rfl
  · rw [if_neg h, if_neg fun h' => h (hb.1 (EReal.coe_le_coe_iff.1 h'))]
    rfl

/-- The bin's number. -/
theorem ref_bin (n : Fin 262144) (d : Fin 8) :
    val_main_v92 (F := Ideal) x0 x1 x2 x3 x4 x5 x6 (ix3 n d 0) = BitVec.ofNat 32 (BI x0 x1 x3 x5 n d).val := by
  have e : idx_main_v92 (ix3 n d 0) = ix2 n d := by
    funext a
    match a with
    | ⟨0, _⟩ => rfl
    | ⟨1, _⟩ => rfl
  have hc : val_main_v88 (F := Ideal) x0 x1 x2 x3 x4 x5 x6 (ix2 n d) = BitVec.ofNat 32 ((BI x0 x1 x3 x5 n d).val + 1) :=
    count_apply _ _ (fun _ => rfl) n d _ (fun k => ref_ge H n d k)
  rw [val_main_v92_apply, e, val_main_v91_apply, val_main_call4_v4_apply, val_main_call4_v3_apply, val_main_c_21_apply,
    val_main_call4_v2_apply, val_main_call4_v1_apply, val_main_call4_v0_apply, val_main_c_20_apply, val_main_v90_apply, hc,
    val_main_v89_apply, val_main_c_19_apply]
  exact clamp_bin _

/-- The look-up of the left edge of its bin, first axis. -/
theorem ref_xk (n : Fin 262144) (d : Fin 8) :
    val_main_v95 (F := Ideal) x0 x1 x2 x3 x4 x5 x6 (ix2 n d) = (knot (EW x0 x1 x3 x5 n d) (BI x0 x1 x3 x5 n d).val : EReal) := by
  have hop : val_main_v93 (F := Ideal) x0 x1 x2 x3 x4 x5 x6 (ix3 n d (BI x0 x1 x3 x5 n d)) = (knot (EW x0 x1 x3 x5 n d) (BI x0 x1 x3 x5 n d).val : EReal) := by
    rw [val_main_v93_apply]
    refine ref_lo_w H n d _ _ ?_
    funext a
    match a with
    | ⟨0, _⟩ => rfl
    | ⟨1, _⟩ => rfl
    | ⟨2, _⟩ => rfl
  have e : idx_main_v95 (ix2 n d) = ix3 n d 0 := by
    have hn := n.isLt
    have hd := d.isLt
    funext a
    match a with
    | ⟨0, _⟩ => exact Fin.ext (show (n.val * 8 + d.val) / 8 = n.val by omega)
    | ⟨1, _⟩ => exact Fin.ext (show (n.val * 8 + d.val) / 1 % 8 = d.val by omega)
    | ⟨2, _⟩ => rfl
  have e5 : idx_main_call5_v5 (ix4 n d 0 0) = ix3 n d 0 := by
    have hn := n.isLt
    have hd := d.isLt
    funext a
    match a with
    | ⟨0, _⟩ => exact Fin.ext (show (((n.val * 8 + d.val) * 1 + 0) * 1 + 0) / 8 = n.val by omega)
    | ⟨1, _⟩ => exact Fin.ext (show (((n.val * 8 + d.val) * 1 + 0) * 1 + 0) / 1 % 8 = d.val by omega)
    | ⟨2, _⟩ => rfl
  have hidx : val_main_call5_v5 (F := Ideal) x0 x1 x2 x3 x4 x5 x6 (ix4 n d 0 0) = BitVec.ofNat 32 (BI x0 x1 x3 x5 n d).val := by
    rw [val_main_call5_v5_apply, e5, val_main_call5_v4_apply, val_main_call5_v1_apply, val_main_call5_v3_apply, ref_bin H,
      val_main_call5_v0_apply, val_main_call5_c_apply, val_main_call5_v2_apply, val_main_call5_c_0_apply]
    exact wrap_bin _
  have hm : val_main_call5_v12 (F := Ideal) x0 x1 x2 x3 x4 x5 x6 (ix3 n d 0) = 1#1 := by
    refine (and_apply _ _ (fun _ => rfl) n d).trans ?_
    rw [val_main_call5_v11_apply, val_main_call5_v7_apply, val_main_call5_v10_apply, hidx, val_main_call5_v6_apply,
      val_main_call5_c_2_apply, val_main_call5_v9_apply, val_main_call5_v8_apply, val_main_call5_c_1_apply]
    exact range_bin _
  rw [val_main_v95_apply, e, val_main_v94_apply, hm, select_one]
  exact (gather_apply _ _ n d _ hidx).trans hop

/-- The look-up of the left edge of its bin, second axis. -/
theorem ref_yk (n : Fin 262144) (d : Fin 8) :
    val_main_v98 (F := Ideal) x0 x1 x2 x3 x4 x5 x6 x7 x8 (ix2 n d) = (knot (EH x0 x1 x3 x7 n d) (BI x0 x1 x3 x5 n d).val : EReal) := by
  have hop : val_main_v96 (F := Ideal) x0 x1 x2 x3 x4 x7 x8 (ix3 n d (BI x0 x1 x3 x5 n d)) = (knot (EH x0 x1 x3 x7 n d) (BI x0 x1 x3 x5 n d).val : EReal) := by
    rw [val_main_v96_apply]
    refine ref_lo_h H n d _ _ ?_
    funext a
    match a with
    | ⟨0, _⟩ => rfl
    | ⟨1, _⟩ => rfl
    | ⟨2, _⟩ => rfl
  have e : idx_main_v98 (ix2 n d) = ix3 n d 0 := by
    have hn := n.isLt
    have hd := d.isLt
    funext a
    match a with
    | ⟨0, _⟩ => exact Fin.ext (show (n.val * 8 + d.val) / 8 = n.val by omega)
    | ⟨1, _⟩ => exact Fin.ext (show (n.val * 8 + d.val) / 1 % 8 = d.val by omega)
    | ⟨2, _⟩ => rfl
  have e5 : idx_main_call6_v5 (ix4 n d 0 0) = ix3 n d 0 := by
    have hn := n.isLt
    have hd := d.isLt
    funext a
    match a with
    | ⟨0, _⟩ => exact Fin.ext (show (((n.val * 8 + d.val) * 1 + 0) * 1 + 0) / 8 = n.val by omega)
    | ⟨1, _⟩ => exact Fin.ext (show (((n.val * 8 + d.val) * 1 + 0) * 1 + 0) / 1 % 8 = d.val by omega)
    | ⟨2, _⟩ => rfl
  have hidx : val_main_call6_v5 (F := Ideal) x0 x1 x2 x3 x4 x5 x6 (ix4 n d 0 0) = BitVec.ofNat 32 (BI x0 x1 x3 x5 n d).val := by
    rw [val_main_call6_v5_apply, e5, val_main_call6_v4_apply, val_main_call6_v1_apply, val_main_call6_v3_apply, ref_bin H,
      val_main_call6_v0_apply, val_main_call6_c_apply, val_main_call6_v2_apply, val_main_call6_c_0_apply]
    exact wrap_bin _
  have hm : val_main_call6_v12 (F := Ideal) x0 x1 x2 x3 x4 x5 x6 (ix3 n d 0) = 1#1 := by
    refine (and_apply _ _ (fun _ => rfl) n d).trans ?_
    rw [val_main_call6_v11_apply, val_main_call6_v7_apply, val_main_call6_v10_apply, hidx, val_main_call6_v6_apply,
      val_main_call6_c_2_apply, val_main_call6_v9_apply, val_main_call6_v8_apply, val_main_call6_c_1_apply]
    exact range_bin _
  rw [val_main_v98_apply, e, val_main_v97_apply, hm, select_one]
  exact (gather_apply _ _ n d _ hidx).trans hop

/-- The look-up of its bin's length, first axis. -/
theorem ref_wk (n : Fin 262144) (d : Fin 8) :
    val_main_v100 (F := Ideal) x0 x1 x2 x3 x4 x5 x6 (ix2 n d) = (width (EW x0 x1 x3 x5 n d) (BI x0 x1 x3 x5 n d) : EReal) := by
  have hop : val_main_v73 (F := Ideal) x0 x1 x2 x3 x4 x5 x6 (ix3 n d (BI x0 x1 x3 x5 n d)) = (width (EW x0 x1 x3 x5 n d) (BI x0 x1 x3 x5 n d) : EReal) := by
    exact ref_width_w H n d _
  have e : idx_main_v100 (ix2 n d) = ix3 n d 0 := by
    have hn := n.isLt
    have hd := d.isLt
    funext a
    match a with
    | ⟨0, _⟩ => exact Fin.ext (show (n.val * 8 + d.val) / 8 = n.val by omega)
    | ⟨1, _⟩ => exact Fin.ext (show (n.val * 8 + d.val) / 1 % 8 = d.val by omega)
    | ⟨2, _⟩ => rfl
  have e5 : idx_main_call7_v5 (ix4 n d 0 0) = ix3 n d 0 := by
    have hn := n.isLt
    have hd := d.isLt
    funext a
    match a with
    | ⟨0, _⟩ => exact Fin.ext (show (((n.val * 8 + d.val) * 1 + 0) * 1 + 0) / 8 = n.val by omega)
    | ⟨1, _⟩ => exact Fin.ext (show (((n.val * 8 + d.val) * 1 + 0) * 1 + 0) / 1 % 8 = d.val by omega)
    | ⟨2, _⟩ => rfl
  have hidx : val_main_call7_v5 (F := Ideal) x0 x1 x2 x3 x4 x5 x6 (ix4 n d 0 0) = BitVec.ofNat 32 (BI x0 x1 x3 x5 n d).val := by
    rw [val_main_call7_v5_apply, e5, val_main_call7_v4_apply, val_main_call7_v1_apply, val_main_call7_v3_apply, ref_bin H,
      val_main_call7_v0_apply, val_main_call7_c_apply, val_main_call7_v2_apply, val_main_call7_c_0_apply]
    exact wrap_bin _
  have hm : val_main_call7_v12 (F := Ideal) x0 x1 x2 x3 x4 x5 x6 (ix3 n d 0) = 1#1 := by
    refine (and_apply _ _ (fun _ => rfl) n d).trans ?_
    rw [val_main_call7_v11_apply, val_main_call7_v7_apply, val_main_call7_v10_apply, hidx, val_main_call7_v6_apply,
      val_main_call7_c_2_apply, val_main_call7_v9_apply, val_main_call7_v8_apply, val_main_call7_c_1_apply]
    exact range_bin _
  rw [val_main_v100_apply, e, val_main_v99_apply, hm, select_one]
  exact (gather_apply _ _ n d _ hidx).trans hop

/-- The look-up of its bin's length, second axis. -/
theorem ref_hk (n : Fin 262144) (d : Fin 8) :
    val_main_v102 (F := Ideal) x0 x1 x2 x3 x4 x5 x6 x7 x8 (ix2 n d) = (width (EH x0 x1 x3 x7 n d) (BI x0 x1 x3 x5 n d) : EReal) := by
  have hop : val_main_v76 (F := Ideal) x0 x1 x2 x3 x4 x7 x8 (ix3 n d (BI x0 x1 x3 x5 n d)) = (width (EH x0 x1 x3 x7 n d) (BI x0 x1 x3 x5 n d) : EReal) := by
    exact ref_width_h H n d _
  have e : idx_main_v102 (ix2 n d) = ix3 n d 0 := by
    have hn := n.isLt
    have hd := d.isLt
    funext a
    match a with
    | ⟨0, _⟩ => exact Fin.ext (show (n.val * 8 + d.val) / 8 = n.val by omega)
    | ⟨1, _⟩ => exact Fin.ext (show (n.val * 8 + d.val) / 1 % 8 = d.val by omega)
    | ⟨2, _⟩ => rfl
  have e5 : idx_main_call8_v5 (ix4 n d 0 0) = ix3 n d 0 := by
    have hn := n.isLt
    have hd := d.isLt
    funext a
    match a with
    | ⟨0, _⟩ => exact Fin.ext (show (((n.val * 8 + d.val) * 1 + 0) * 1 + 0) / 8 = n.val by omega)
    | ⟨1, _⟩ => exact Fin.ext (show (((n.val * 8 + d.val) * 1 + 0) * 1 + 0) / 1 % 8 = d.val by omega)
    | ⟨2, _⟩ => rfl
  have hidx : val_main_call8_v5 (F := Ideal) x0 x1 x2 x3 x4 x5 x6 (ix4 n d 0 0) = BitVec.ofNat 32 (BI x0 x1 x3 x5 n d).val := by
    rw [val_main_call8_v5_apply, e5, val_main_call8_v4_apply, val_main_call8_v1_apply, val_main_call8_v3_apply, ref_bin H,
      val_main_call8_v0_apply, val_main_call8_c_apply, val_main_call8_v2_apply, val_main_call8_c_0_apply]
    exact wrap_bin _
  have hm : val_main_call8_v12 (F := Ideal) x0 x1 x2 x3 x4 x5 x6 (ix3 n d 0) = 1#1 := by
    refine (and_apply _ _ (fun _ => rfl) n d).trans ?_
    rw [val_main_call8_v11_apply, val_main_call8_v7_apply, val_main_call8_v10_apply, hidx, val_main_call8_v6_apply,
      val_main_call8_c_2_apply, val_main_call8_v9_apply, val_main_call8_v8_apply, val_main_call8_c_1_apply]
    exact range_bin _
  rw [val_main_v102_apply, e, val_main_v101_apply, hm, select_one]
  exact (gather_apply _ _ n d _ hidx).trans hop

/-- The look-up of the slope at its bin's left edge. -/
theorem ref_dk (n : Fin 262144) (d : Fin 8) :
    val_main_v105 (F := Ideal) x0 x1 x2 x3 x4 x5 x6 x9 x10 (ix2 n d) = left (SL x0 x1 x3 x9 n d) (BI x0 x1 x3 x5 n d) := by
  have hop : val_main_v103 (F := Ideal) x0 x1 x2 x3 x4 x9 x10 (ix3 n d (BI x0 x1 x3 x5 n d)) = left (SL x0 x1 x3 x9 n d) (BI x0 x1 x3 x5 n d) := by
    have hi : idx_main_v103 (ix3 n d (BI x0 x1 x3 x5 n d)) = ix3 n d ⟨(BI x0 x1 x3 x5 n d).val, by omega⟩ := by
      funext a
      match a with
      | ⟨0, _⟩ => rfl
      | ⟨1, _⟩ => rfl
      | ⟨2, _⟩ => rfl
    rw [val_main_v103_apply, hi, ref_slopes H]
    unfold left
    have hl := (BI x0 x1 x3 x5 n d).isLt
    by_cases h : (BI x0 x1 x3 x5 n d).val = 0
    · rw [dif_pos h, dif_neg fun h' => absurd (show 0 < (BI x0 x1 x3 x5 n d).val from h'.1) (by omega)]
    · rw [dif_neg h, dif_pos ⟨show 0 < (BI x0 x1 x3 x5 n d).val by omega, hl⟩]
  have e : idx_main_v105 (ix2 n d) = ix3 n d 0 := by
    have hn := n.isLt
    have hd := d.isLt
    funext a
    match a with
    | ⟨0, _⟩ => exact Fin.ext (show (n.val * 8 + d.val) / 8 = n.val by omega)
    | ⟨1, _⟩ => exact Fin.ext (show (n.val * 8 + d.val) / 1 % 8 = d.val by omega)
    | ⟨2, _⟩ => rfl
  have e5 : idx_main_call9_v5 (ix4 n d 0 0) = ix3 n d 0 := by
    have hn := n.isLt
    have hd := d.isLt
    funext a
    match a with
    | ⟨0, _⟩ => exact Fin.ext (show (((n.val * 8 + d.val) * 1 + 0) * 1 + 0) / 8 = n.val by omega)
    | ⟨1, _⟩ => exact Fin.ext (show (((n.val * 8 + d.val) * 1 + 0) * 1 + 0) / 1 % 8 = d.val by omega)
    | ⟨2, _⟩ => rfl
  have hidx : val_main_call9_v5 (F := Ideal) x0 x1 x2 x3 x4 x5 x6 (ix4 n d 0 0) = BitVec.ofNat 32 (BI x0 x1 x3 x5 n d).val := by
    rw [val_main_call9_v5_apply, e5, val_main_call9_v4_apply, val_main_call9_v1_apply, val_main_call9_v3_apply, ref_bin H,
      val_main_call9_v0_apply, val_main_call9_c_apply, val_main_call9_v2_apply, val_main_call9_c_0_apply]
    exact wrap_bin _
  have hm : val_main_call9_v12 (F := Ideal) x0 x1 x2 x3 x4 x5 x6 (ix3 n d 0) = 1#1 := by
    refine (and_apply _ _ (fun _ => rfl) n d).trans ?_
    rw [val_main_call9_v11_apply, val_main_call9_v7_apply, val_main_call9_v10_apply, hidx, val_main_call9_v6_apply,
      val_main_call9_c_2_apply, val_main_call9_v9_apply, val_main_call9_v8_apply, val_main_call9_c_1_apply]
    exact range_bin _
  rw [val_main_v105_apply, e, val_main_v104_apply, hm, select_one]
  exact (gather_apply _ _ n d _ hidx).trans hop

/-- The look-up of the slope at its bin's right edge. -/
theorem ref_dk1 (n : Fin 262144) (d : Fin 8) :
    val_main_v108 (F := Ideal) x0 x1 x2 x3 x4 x5 x6 x9 x10 (ix2 n d) = right (SL x0 x1 x3 x9 n d) (BI x0 x1 x3 x5 n d) := by
  have hop : val_main_v106 (F := Ideal) x0 x1 x2 x3 x4 x9 x10 (ix3 n d (BI x0 x1 x3 x5 n d)) = right (SL x0 x1 x3 x9 n d) (BI x0 x1 x3 x5 n d) := by
    have hi : idx_main_v106 (ix3 n d (BI x0 x1 x3 x5 n d)) = ix3 n d ⟨(BI x0 x1 x3 x5 n d).val + 1, by omega⟩ := by
      funext a
      match a with
      | ⟨0, _⟩ => rfl
      | ⟨1, _⟩ => rfl
      | ⟨2, _⟩ => exact Fin.ext (Nat.add_comm 1 (BI x0 x1 x3 x5 n d).val)
    rw [val_main_v106_apply, hi, ref_slopes H]
    unfold right
    have hl := (BI x0 x1 x3 x5 n d).isLt
    by_cases h : (BI x0 x1 x3 x5 n d).val < 9
    · rw [dif_pos h, dif_pos ⟨Nat.succ_pos _, show (BI x0 x1 x3 x5 n d).val + 1 < 10 by omega⟩]
      exact congrArg (SL x0 x1 x3 x9 n d) (Fin.ext (Nat.add_sub_cancel _ 1))
    · rw [dif_neg h, dif_neg fun h' => absurd (show (BI x0 x1 x3 x5 n d).val + 1 < 10 from h'.2) (by omega)]
  have e : idx_main_v108 (ix2 n d) = ix3 n d 0 := by
    have hn := n.isLt
    have hd := d.isLt
    funext a
    match a with
    | ⟨0, _⟩ => exact Fin.ext (show (n.val * 8 + d.val) / 8 = n.val by omega)
    | ⟨1, _⟩ => exact Fin.ext (show (n.val * 8 + d.val) / 1 % 8 = d.val by omega)
    | ⟨2, _⟩ => rfl
  have e5 : idx_main_call10_v5 (ix4 n d 0 0) = ix3 n d 0 := by
    have hn := n.isLt
    have hd := d.isLt
    funext a
    match a with
    | ⟨0, _⟩ => exact Fin.ext (show (((n.val * 8 + d.val) * 1 + 0) * 1 + 0) / 8 = n.val by omega)
    | ⟨1, _⟩ => exact Fin.ext (show (((n.val * 8 + d.val) * 1 + 0) * 1 + 0) / 1 % 8 = d.val by omega)
    | ⟨2, _⟩ => rfl
  have hidx : val_main_call10_v5 (F := Ideal) x0 x1 x2 x3 x4 x5 x6 (ix4 n d 0 0) = BitVec.ofNat 32 (BI x0 x1 x3 x5 n d).val := by
    rw [val_main_call10_v5_apply, e5, val_main_call10_v4_apply, val_main_call10_v1_apply, val_main_call10_v3_apply, ref_bin H,
      val_main_call10_v0_apply, val_main_call10_c_apply, val_main_call10_v2_apply, val_main_call10_c_0_apply]
    exact wrap_bin _
  have hm : val_main_call10_v12 (F := Ideal) x0 x1 x2 x3 x4 x5 x6 (ix3 n d 0) = 1#1 := by
    refine (and_apply _ _ (fun _ => rfl) n d).trans ?_
    rw [val_main_call10_v11_apply, val_main_call10_v7_apply, val_main_call10_v10_apply, hidx, val_main_call10_v6_apply,
      val_main_call10_c_2_apply, val_main_call10_v9_apply, val_main_call10_v8_apply, val_main_call10_c_1_apply]
    exact range_bin _
  rw [val_main_v108_apply, e, val_main_v107_apply, hm, select_one]
  exact (gather_apply _ _ n d _ hidx).trans hop

end Cert.Spline

end

end
-- ==== Proof.Spline.RefOut.lean ====
/-
  The reference's two results: every entry of the first, and the second as a sum over rows and coordinates.
-/
module

public import proofs.«01_k».proof.Proof.Spline.RefBin

@[expose] public section

noncomputable section

namespace Cert.Spline

open Idealize.ShloMosaic Idealize.ShloMosaic.ValueIdx Cert.ReferenceIdeal Cert.ReferenceIdeal.Gen Cert.ReferenceIdeal.Read
open scoped BigOperators

/-- The quotient of two real numbers, the divisor not zero. -/
theorem div_real (a b : ℝ) (hb : b ≠ 0) : Ideal.div (a : EReal) (b : EReal) = ((a / b : ℝ) : EReal) := by
  rw [Ideal.div_coe hb, ← EReal.coe_mul]
  congr 1
  ring

/-- Both of two conditions, as one bit. -/
theorem and_bits (p q : Prop) [Decidable p] [Decidable q] :
    IntOp.andi (if p then 1#1 else 0#1) (if q then 1#1 else 0#1) = if p ∧ q then 1#1 else 0#1 := by
  by_cases hp : p <;> by_cases hq : q <;> simp [hp, hq] <;> decide

variable (x0 : (⟨S262144x16, .f32⟩ : BufTy).Contents (Elt Ideal)) (x1 : (⟨S8x50, .f32⟩ : BufTy).Contents (Elt Ideal))
  (x2 : (⟨S50, .f32⟩ : BufTy).Contents (Elt Ideal)) (x3 : (⟨S50x50, .f32⟩ : BufTy).Contents (Elt Ideal))
  (x4 : (⟨S50, .f32⟩ : BufTy).Contents (Elt Ideal)) (x5 : (⟨S50x80, .f32⟩ : BufTy).Contents (Elt Ideal))
  (x6 : (⟨S80, .f32⟩ : BufTy).Contents (Elt Ideal)) (x7 : (⟨S50x80, .f32⟩ : BufTy).Contents (Elt Ideal))
  (x8 : (⟨S80, .f32⟩ : BufTy).Contents (Elt Ideal)) (x9 : (⟨S50x72, .f32⟩ : BufTy).Contents (Elt Ideal))
  (x10 : (⟨S72, .f32⟩ : BufTy).Contents (Elt Ideal))

/-- Whether the coordinate lies inside the interval. -/
theorem ref_inside (n : Fin 262144) (d : Fin 8) :
    val_main_v81 (F := Ideal) x0 (ix2 n d)
      = if ((-3 : ℝ) : EReal) < x0 (ix2 n (hi d)) ∧ x0 (ix2 n (hi d)) < ((3 : ℝ) : EReal) then 1#1 else 0#1 := by
  rw [val_main_v81_apply, val_main_v78_apply, val_main_v80_apply, val_main_v77_apply, val_main_v79_apply, val_main_cst_15_apply,
    val_main_cst_16_apply, ref_u, Ideal.ofBits_def, Ideal.ofBits_def, lit_three, lit_neg_three]
  have h1 : FloatOps.cmpf (F := Ideal) (φ := .f32) .ogt (x0 (ix2 n (hi d))) ((-3 : ℝ) : EReal)
      = if ((-3 : ℝ) : EReal) < x0 (ix2 n (hi d)) then 1#1 else 0#1 := cmp_ogt _ _
  have h2 : FloatOps.cmpf (F := Ideal) (φ := .f32) .olt (x0 (ix2 n (hi d))) ((3 : ℝ) : EReal)
      = if x0 (ix2 n (hi d)) < ((3 : ℝ) : EReal) then 1#1 else 0#1 := cmp_olt _ _
  rw [h1, h2, and_bits]

variable {x0 x1 x2 x3 x4 x5 x6 x7 x8 x9 x10}
variable (H : Dom x2 x4 x5 x6 x7 x8 x10)
include H

/-- The bin's mean slope. -/
theorem ref_sk (n : Fin 262144) (d : Fin 8) :
    val_main_v109 (F := Ideal) x0 x1 x2 x3 x4 x5 x6 x7 x8 (ix2 n d)
      = (mean (EW x0 x1 x3 x5 n d) (EH x0 x1 x3 x7 n d) (CL x0 n d) : EReal) := by
  rw [val_main_v109_apply, ref_hk H, ref_wk H, Ideal.hostDivf_def]
  exact div_real _ _ (width_pos _ (wt_pos _ _ _) _).ne'

/-- The relative position in the bin. -/
theorem ref_xi (n : Fin 262144) (d : Fin 8) :
    val_main_v111 (F := Ideal) x0 x1 x2 x3 x4 x5 x6 (ix2 n d) = (pos (EW x0 x1 x3 x5 n d) (CL x0 n d) : EReal) := by
  rw [val_main_v111_apply, val_main_v110_apply, ref_xk H, ref_wk H, ref_clip, Ideal.hostDivf_def, Ideal.subf_def, ← EReal.coe_sub]
  exact div_real _ _ (width_pos _ (wt_pos _ _ _) _).ne'

/-- One less the relative position. -/
theorem ref_om (n : Fin 262144) (d : Fin 8) :
    val_main_v113 (F := Ideal) x0 x1 x2 x3 x4 x5 x6 (ix2 n d) = 1 - (pos (EW x0 x1 x3 x5 n d) (CL x0 n d) : EReal) := by
  rw [val_main_v113_apply, val_main_v112_apply, val_main_cst_22_apply, ref_xi H, Ideal.subf_def, Ideal.ofBits_def, lit_one,
    EReal.coe_one]

/-- The denominator. -/
theorem ref_denom (n : Fin 262144) (d : Fin 8) :
    val_main_v120 (F := Ideal) x0 x1 x2 x3 x4 x5 x6 x7 x8 x9 x10 (ix2 n d)
      = denom (mean (EW x0 x1 x3 x5 n d) (EH x0 x1 x3 x7 n d) (CL x0 n d)) (pos (EW x0 x1 x3 x5 n d) (CL x0 n d))
          (left (SL x0 x1 x3 x9 n d) (BI x0 x1 x3 x5 n d)) (right (SL x0 x1 x3 x9 n d) (BI x0 x1 x3 x5 n d)) := by
  rw [val_main_v120_apply, val_main_v119_apply, val_main_v118_apply, val_main_v117_apply, val_main_v116_apply, val_main_v115_apply,
    val_main_cst_23_apply, val_main_v114_apply, ref_sk H, ref_xi H, ref_om H, ref_dk H, ref_dk1 H]
  simp only [Ideal.addf_def, Ideal.subf_def, Ideal.mulf_def, Ideal.ofBits_def, lit_two]
  rfl

/-- The first result's transformed part. -/
theorem ref_z (n : Fin 262144) (d : Fin 8) :
    val_main_v148 (F := Ideal) x0 x1 x2 x3 x4 x5 x6 x7 x8 x9 x10 (ix2 n d) = zArr x0 x1 x3 x5 x7 x9 n d := by
  rw [val_main_v148_apply, ref_inside, ref_u]
  unfold zArr zOf
  by_cases h : ((-3 : ℝ) : EReal) < x0 (ix2 n (hi d)) ∧ x0 (ix2 n (hi d)) < ((3 : ℝ) : EReal)
  · rw [if_pos h, if_pos h, select_one]
    rw [val_main_v128_apply, val_main_v127_apply, val_main_v126_apply, val_main_v125_apply, val_main_v124_apply, val_main_v123_apply,
      val_main_v122_apply, val_main_v121_apply, ref_denom H, ref_sk H, ref_xi H, ref_om H, ref_dk H, ref_yk H, ref_hk H]
    simp only [Ideal.addf_def, Ideal.mulf_def, Ideal.hostDivf_def]
    rfl
  · rw [if_neg h, if_neg h, select_zero]

/-- The log-derivative at a row and a coordinate. -/
theorem ref_ld (n : Fin 262144) (d : Fin 8) :
    val_main_v149 (F := Ideal) x0 x1 x2 x3 x4 x5 x6 x7 x8 x9 x10 (ix2 n d) = ldArr x0 x1 x3 x5 x7 x9 n d := by
  rw [val_main_v149_apply, ref_inside]
  unfold ldArr ldOf
  by_cases h : ((-3 : ℝ) : EReal) < x0 (ix2 n (hi d)) ∧ x0 (ix2 n (hi d)) < ((3 : ℝ) : EReal)
  · rw [if_pos h, if_pos h, select_one]
    rw [val_main_v147_apply, val_main_v146_apply, val_main_v145_apply, val_main_cst_26_apply, val_main_v144_apply, val_main_v143_apply,
      val_main_v142_apply, val_main_v141_apply, val_main_v140_apply, val_main_v139_apply, val_main_v138_apply, val_main_v137_apply,
      val_main_v136_apply, val_main_v135_apply, val_main_v134_apply, val_main_cst_25_apply, val_main_v133_apply, val_main_v132_apply,
      val_main_v131_apply, val_main_v130_apply, val_main_cst_24_apply, val_main_v129_apply, ref_denom H, ref_sk H, ref_xi H, ref_om H,
      ref_dk H, ref_dk1 H]
    simp only [Ideal.addf_def, Ideal.subf_def, Ideal.mulf_def, Ideal.ofBits_def, lit_two, Ideal.hostUnary_log_def]
    rfl
  · rw [if_neg h, if_neg h, select_zero]
    exact lit_zero

/-- The first result of the reference. -/
theorem ref_out (n : Fin 262144) (c : Fin 16) :
    val_main_v150 (F := Ideal) x0 x1 x2 x3 x4 x5 x6 x7 x8 x9 x10 (ix2 n c) = outArr x0 x1 x3 x5 x7 x9 n c := by
  unfold val_main_v150 outArr
  have hc := c.isLt
  by_cases h : c.val < 8
  · rw [dif_pos h]
    refine (concatenate_apply_piece (t := S262144x16) 1 _ _ _ 0 (by exact Nat.zero_lt_succ _) S262144x8 _ rfl rfl 0 rfl
      (ix2 n ⟨c.val, h⟩) (fun b hb => ?_) (by exact Nat.zero_add c.val)).trans ?_
    · match b with
      | ⟨0, _⟩ => rfl
      | ⟨1, _⟩ => exact absurd rfl hb
    · rw [val_main_v0_apply]
      refine congrArg x0 ?_
      funext a
      match a with
      | ⟨0, _⟩ => rfl
      | ⟨1, _⟩ => rfl
  · rw [dif_neg h, ← ref_z H]
    refine concatenate_apply_piece (t := S262144x16) 1 _ _ _ 1 (by exact Nat.succ_lt_succ (Nat.zero_lt_succ _)) S262144x8 _ rfl rfl 8 rfl
      (ix2 n ⟨c.val - 8, by omega⟩) (fun b hb => ?_) (by exact (show 8 + (c.val - 8) = c.val by omega))
    match b with
    | ⟨0, _⟩ => rfl
    | ⟨1, _⟩ => exact absurd rfl hb

/-- The second result of the reference. -/
theorem ref_sum (i : S_.Idx) :
    val_main_v151 (F := Ideal) x0 x1 x2 x3 x4 x5 x6 x7 x8 x9 x10 i
      = ∑ n : Fin 262144, ∑ d : Fin 8, ldArr x0 x1 x3 x5 x7 x9 n d := by
  have h0 : val_main_cst_28 (F := Ideal) (Shape.Idx.first h_S_) = (0 : EReal) := lit_zero
  rw [val_main_v151_apply, h0, zero_add, sum_idx2]
  exact Finset.sum_congr rfl fun n _ => Finset.sum_congr rfl fun d _ => ref_ld H n d

end Cert.Spline

end

end
-- ==== Proof.Spline.RefRun.lean ====
/-
  The reference's run: its two results as functions of the arguments.
-/
module

public import proofs.«01_k».proof.Proof.Spline.RefOut
public import proofs.«01_k».proof.Proof.Gen.ReferenceIdeal.Run

@[expose] public section

noncomputable section

namespace Cert.Spline

open Idealize.ShloMosaic Idealize.ShloMosaic.TcCoe Idealize.SL.Sem Cert.ReferenceIdeal Cert.ReferenceIdeal.Gen
open Cert.ReferenceIdeal.Read

/-- The reference's run, each result at the last of the values that its operations compute one after another. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v150) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v151) = val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (val_main_v150_eq (StableHlo.launchContents m c)),
      (h c).2.1.trans (val_main_v151_eq (StableHlo.launchContents m c)), (h c).2.2⟩) (Cert.ReferenceIdeal.Value.run m ρ)

end Cert.Spline

end

end
-- ==== Proof.Spline.Domain.lean ====
/-
  What the precondition says of the arguments: the biases are zero, the two weight matrices are finite, and a column of the first has
  absolute values summing to at most thirteen.
-/
module

public import proofs.«01_k».proof.Pre_in_domain
public import proofs.«01_k».proof.Proof.Gen.Pre_in_domain
public import proofs.«01_k».proof.Proof.Spline.RefKnots
public import Idealize.ShloMosaic.Lib.ReduceAll
public import Idealize.ShloMosaic.Lib.IdealHost

@[expose] public section

noncomputable section

namespace Cert.Spline

open Idealize.ShloMosaic Idealize.ShloMosaic.ValueIdx Cert.Pre_in_domain
open scoped BigOperators

/-- There is one index of an array without axes. -/
instance one_index : Subsingleton S_.Idx := ⟨fun _ _ => funext fun a => a.elim0⟩

theorem of_oeq {x y : EReal} (h : Ideal.cmp .oeq x y = 1#1) : x = y := by
  rw [cmp_oeq] at h
  by_contra hn
  rw [if_neg hn] at h
  exact absurd h (by decide)

theorem of_ole {x y : EReal} (h : Ideal.cmp .ole x y = 1#1) : x ≤ y := by
  rw [cmp_ole] at h
  by_contra hn
  rw [if_neg hn] at h
  exact absurd h (by decide)

theorem of_olt {x y : EReal} (h : Ideal.cmp .olt x y = 1#1) : x < y := by
  rw [cmp_olt] at h
  by_contra hn
  rw [if_neg hn] at h
  exact absurd h (by decide)

/-- An extended real whose absolute value is below infinity is a real number. -/
theorem real_of_abs {x : EReal} (h : max x (-x) < ⊤) : ∃ r : ℝ, x = (r : EReal) := by
  induction x with
  | bot => exact absurd h (by simp)
  | top => exact absurd h (by simp)
  | coe r => exact ⟨r, rfl⟩

theorem abs_nonneg' (x : EReal) : 0 ≤ max x (-x) := by
  rcases le_total 0 x with h | h
  · exact le_max_of_le_left h
  · exact le_max_of_le_right (by simpa using EReal.neg_le_neg_iff.2 h)

theorem max_coe (r : ℝ) : max (r : EReal) (-(r : EReal)) = ((|r| : ℝ) : EReal) := by
  rw [← EReal.coe_neg]
  rcases le_total 0 r with h | h
  · rw [abs_of_nonneg h]
    exact max_eq_left (EReal.coe_le_coe_iff.2 (by linarith))
  · rw [abs_of_nonpos h]
    exact max_eq_right (EReal.coe_le_coe_iff.2 (by linarith))

variable {x0 : FVec Ideal S262144x16 .f32} {x1 : FVec Ideal S8x50 .f32} {x2 : FVec Ideal S50 .f32} {x3 : FVec Ideal S50x50 .f32}
  {x4 : FVec Ideal S50 .f32} {x5 : FVec Ideal S50x80 .f32} {x6 : FVec Ideal S80 .f32} {x7 : FVec Ideal S50x80 .f32}
  {x8 : FVec Ideal S80 .f32} {x9 : FVec Ideal S50x72 .f32} {x10 : FVec Ideal S72 .f32}

theorem red50 : S50x80.Reduces [0] S80 := by decide

/-- The precondition, one condition at a time. -/
theorem domain_parts (h : Cert.Pre_in_domain.fn (F := Ideal) x0 x1 x2 x3 x4 x5 x6 x7 x8 x9 x10 = fun _ => 1#1) :
    (∀ i, x2 i = (0 : EReal)) ∧ (∀ i, x4 i = (0 : EReal)) ∧ (∀ i, x6 i = (0 : EReal)) ∧ (∀ i, x8 i = (0 : EReal)) ∧
      (∀ i, x10 i = (0 : EReal)) ∧ (∀ q : Fin 80, ∑ j : Fin 50, max (x5 (ix2 j q)) (-(x5 (ix2 j q))) ≤ ((13 : ℝ) : EReal)) ∧
      (∀ i, max (x7 i) (-(x7 i)) < (⊤ : EReal)) := by
  have e := congrFun h ix0
  unfold Cert.Pre_in_domain.fn Cert.Pre_in_domain.fn_part1 at e
  obtain ⟨e, a7⟩ := IntOp.andi_eq_one.1 e
  obtain ⟨e, a6⟩ := IntOp.andi_eq_one.1 e
  obtain ⟨e, a5⟩ := IntOp.andi_eq_one.1 e
  obtain ⟨e, a4⟩ := IntOp.andi_eq_one.1 e
  obtain ⟨e, a3⟩ := IntOp.andi_eq_one.1 e
  obtain ⟨a1, a2⟩ := IntOp.andi_eq_one.1 e
  refine ⟨fun i => ?_, fun i => ?_, fun i => ?_, fun i => ?_, fun i => ?_, fun q => ?_, fun i => ?_⟩
  · exact (of_oeq (Host.reduce_andi_all _ _ _ _ _ a1 i)).trans lit_zero
  · exact (of_oeq (Host.reduce_andi_all _ _ _ _ _ a2 i)).trans lit_zero
  · exact (of_oeq (Host.reduce_andi_all _ _ _ _ _ a3 i)).trans lit_zero
  · exact (of_oeq (Host.reduce_andi_all _ _ _ _ _ a4 i)).trans lit_zero
  · exact (of_oeq (Host.reduce_andi_all _ _ _ _ _ a5 i)).trans lit_zero
  · have hq := of_ole (Host.reduce_andi_all _ _ _ _ _ a6 (ix1 q))
    refine le_of_eq_of_le ?_ (hq.trans_eq lit_thirteen)
    refine Eq.symm ((hostReduceAdd_apply _ _ _ _ _).trans ((Ideal.hostReduceAdd_single _ red50 _ _ _).trans ?_))
    refine (congrArg (· + _) lit_zero).trans ((zero_add _).trans (Finset.sum_congr rfl fun j _ => ?_))
    have hl : red50.lift (ix1 q) j = ix2 j q := funext fun a => Fin.ext (by
      match a with
      | ⟨0, _⟩ => rfl
      | ⟨1, _⟩ => rfl)
    exact congrArg (fun i => max (x5 i) (-(x5 i))) hl
  · exact (of_olt (Host.reduce_andi_all _ _ _ _ _ a7 i)).trans_eq lit_top

/-- A matrix whose columns' absolute values sum to at most thirteen is finite. -/
theorem cols_real (h : ∀ q : Fin 80, ∑ j : Fin 50, max (x5 (ix2 j q)) (-(x5 (ix2 j q))) ≤ ((13 : ℝ) : EReal)) (i : S50x80.Idx) :
    ∃ r : ℝ, x5 i = (r : EReal) := by
  obtain ⟨j, q, rfl⟩ : ∃ (j : Fin 50) (q : Fin 80), i = ix2 j q := ⟨i 0, i 1, eq_ix2 i⟩
  refine real_of_abs (lt_of_le_of_lt ?_ (lt_of_le_of_lt (h q) (EReal.coe_lt_top 13)))
  exact Finset.single_le_sum (f := fun j : Fin 50 => max (x5 (ix2 j q)) (-(x5 (ix2 j q)))) (fun j _ => abs_nonneg' _) (Finset.mem_univ j)

/-- The same bound on the entries as real numbers. -/
theorem cols_bound (h : ∀ q : Fin 80, ∑ j : Fin 50, max (x5 (ix2 j q)) (-(x5 (ix2 j q))) ≤ ((13 : ℝ) : EReal)) (q : Fin 80) :
    ∑ j : Fin 50, |(x5 (ix2 j q)).toReal| ≤ 13 := by
  have e : ∑ j : Fin 50, max (x5 (ix2 j q)) (-(x5 (ix2 j q))) = ((∑ j : Fin 50, |(x5 (ix2 j q)).toReal| : ℝ) : EReal) := by
    rw [coe_sum]
    refine Finset.sum_congr rfl fun j _ => ?_
    obtain ⟨r, hr⟩ := cols_real h (ix2 j q)
    rw [hr, max_coe, EReal.toReal_coe]
  have hq := h q
  rw [e] at hq
  exact EReal.coe_le_coe_iff.1 hq

/-- The precondition in the form that the proof about the reference takes it. -/
theorem domain (h : Cert.Pre_in_domain.fn (F := Ideal) x0 x1 x2 x3 x4 x5 x6 x7 x8 x9 x10 = fun _ => 1#1) :
    Dom x2 x4 x5 x6 x7 x8 x10 :=
  let ⟨h2, h4, h6, h8, h10, h5, h7⟩ := domain_parts h
  ⟨h2, h4, cols_real h5, h6, fun i => real_of_abs (h7 i), h8, h10⟩

end Cert.Spline

end

end
-- ==== Proof.lean ====
/-
  The proof of `Cert.Claim`: the three frames, the kernel with its named constant against the kernel as printed, and the kernel against the
  reference. The last is put together from the two runs, each of which ends with the same functions of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_domain
public import proofs.«01_k».proof.Proof.Spline.KTail
public import proofs.«01_k».proof.Proof.Spline.RefRun
public import proofs.«01_k».proof.Proof.Spline.Domain
public import Idealize.ShloMosaic.Adequacy
public import Idealize.ShloMosaic.Init

@[expose] public section

noncomputable section

namespace Cert.Proof

open Idealize.ShloMosaic hiding ix1 ix2 ix3 ix4 eq_ix1 eq_ix2 eq_ix3
open Idealize.ShloMosaic.ValueIdx Idealize.SL.Sem Cert.Spline

/-- The reference leaves its arguments as they were, and has no semaphores. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
        ∧ r.2.sem = fun _ => 0) :=
  (θ_run Cert.ReferenceIdeal.defs _ _).mono (fun r h => ⟨fun c => (h c).2.2, sem_eq_zero_of_no_sems (by decide) r.2⟩) (ref_run m g)

/-- The kernel with its named constant and the reference give the same two results on every argument in the domain. -/
theorem same_results : Cert.algebraic_KernelIdeal_ReferenceIdeal_pre_in_domain := by
  intro m g m' g' hpre hagree
  refine ⟨fun c => resOut m c, fun c => resSum m c, ?_, ?_⟩
  · refine (θ_run Cert.KernelIdeal.defs _ _).mono (fun r h c => ⟨(h c).1.1, (h c).1.2, (h c).2⟩) (kernel_run m g fun c => ?_)
    obtain ⟨-, -, -, -, -, h5, h7⟩ := domain_parts (hpre c)
    exact ⟨cols_real h5, fun i => real_of_abs (h7 i), cols_bound h5⟩
  · refine (θ_run Cert.ReferenceIdeal.defs _ _).mono (fun r h c => ?_) (ref_run m' g')
    obtain ⟨a0, a1, a2, a3, a4, a5, a6, a7, a8, a9, a10⟩ := hagree c
    have H := domain (hpre c)
    refine ⟨(h c).1.trans ?_, (h c).2.1.trans ?_, (h c).2.2⟩
    · rw [a0, a1, a2, a3, a4, a5, a6, a7, a8, a9, a10]
      funext i
      obtain ⟨n, k, rfl⟩ : ∃ (n : Fin 262144) (k : Fin 16), i = ix2 n k := ⟨i 0, i 1, eq_ix2 i⟩
      exact ref_out H n k
    · rw [a0, a1, a2, a3, a4, a5, a6, a7, a8, a9, a10]
      funext i
      exact ref_sum H i

/-- Everything that is claimed. -/
theorem claim : Cert.Claim := ⟨Cert.Kernel.Gen.facts, Cert.KernelIdeal.Gen.facts, Cert.ReferenceIdeal.Gen.facts, Cert.Pre_in_domain.Gen.facts,
  fun m g _ => Cert.Kernel.Gen.frame m g,
  fun m g _ => Cert.KernelIdeal.Gen.frame m g,
  fun m g _ => Cert.KernelIdeal.Gen.frame m g,
  fun m g _ => frame_ref m g,
  fun m g _ => frame_ref m g,
  IdealRules.named_const.statement Cert.KernelIdeal.κ "sixth" .f32 0x3E2AAAAB#32 ((6⁻¹ : ℝ) : EReal) rfl,
  same_results⟩

end Cert.Proof

end
